-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ScKernel (m : (ℓ : Loc Cert.ScKernel.nD Cert.ScKernel.τ Cert.ScKernel.sig) → Buf (Elt Bits) ℓ) : Prop :=
  True

def Pre_ScKernelIdeal (m : (ℓ : Loc Cert.ScKernelIdeal.nD Cert.ScKernelIdeal.τ Cert.ScKernelIdeal.sig) → Buf (Elt Ideal) ℓ) : Prop :=
  True

def Pre_ScReferenceIdeal (m : (ℓ : Loc Cert.ScReferenceIdeal.nD Cert.ScReferenceIdeal.τ Cert.ScReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ScKernel [hScKernel : Cert.ScKernel.Facts] : Prop :=
  ∀ (m : (ℓ : Loc Cert.ScKernel.nD Cert.ScKernel.τ Cert.ScKernel.sig) → Buf (Elt Bits) ℓ) (g : Dev Cert.ScKernel.nD → PrngReg), Pre_ScKernel m →
    θ_run (Cert.ScKernel.defs (F := Bits)) (Cert.ScKernel.threads (F := Bits)) ⟨m, fun _ => 0, g⟩ (fun r => (∀ c : Dev Cert.ScKernel.nD,
      r.2.mem ((c.tc : Thread Cert.ScKernel.nD Cert.ScKernel.τ).loc Cert.ScKernel.main_arg0) = m ((c.tc : Thread Cert.ScKernel.nD Cert.ScKernel.τ).loc Cert.ScKernel.main_arg0))
      ∧ r.2.sem = fun _ => 0)

def quiescent_ScKernelIdeal [hScKernelIdeal : Cert.ScKernelIdeal.Facts] : Prop :=
  ∀ (m : (ℓ : Loc Cert.ScKernelIdeal.nD Cert.ScKernelIdeal.τ Cert.ScKernelIdeal.sig) → Buf (Elt Ideal) ℓ) (g : Dev Cert.ScKernelIdeal.nD → PrngReg), Pre_ScKernelIdeal m →
    θ_run (Cert.ScKernelIdeal.defs (F := Ideal)) (Cert.ScKernelIdeal.threads (F := Ideal)) ⟨m, fun _ => 0, g⟩ (fun r => (∀ c : Dev Cert.ScKernelIdeal.nD,
      r.2.mem ((c.tc : Thread Cert.ScKernelIdeal.nD Cert.ScKernelIdeal.τ).loc Cert.ScKernelIdeal.main_arg0) = m ((c.tc : Thread Cert.ScKernelIdeal.nD Cert.ScKernelIdeal.τ).loc Cert.ScKernelIdeal.main_arg0))
      ∧ r.2.sem = fun _ => 0)

def quiescent_ScReferenceIdeal [hScReferenceIdeal : Cert.ScReferenceIdeal.Facts] : Prop :=
  ∀ (m : (ℓ : Loc Cert.ScReferenceIdeal.nD Cert.ScReferenceIdeal.τ Cert.ScReferenceIdeal.sig) → Buf (Elt Ideal) ℓ) (g : Dev Cert.ScReferenceIdeal.nD → PrngReg), Pre_ScReferenceIdeal m →
    θ_run (Cert.ScReferenceIdeal.defs (F := Ideal)) (onTc (τ := Cert.ScReferenceIdeal.τ) (Cert.ScReferenceIdeal.main (F := Ideal))) ⟨m, fun _ => 0, g⟩ (fun r => (∀ c : Dev Cert.ScReferenceIdeal.nD,
      r.2.mem ((c.tc : Thread Cert.ScReferenceIdeal.nD Cert.ScReferenceIdeal.τ).loc Cert.ScReferenceIdeal.main_arg0) = m ((c.tc : Thread Cert.ScReferenceIdeal.nD Cert.ScReferenceIdeal.τ).loc Cert.ScReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_ScKernel_ScKernelIdeal : Prop :=
  True

def algebraic_ScKernelIdeal_ScReferenceIdeal [hScKernelIdeal : Cert.ScKernelIdeal.Facts] [hScReferenceIdeal : Cert.ScReferenceIdeal.Facts] : Prop :=
  ∀ (m : (ℓ : Loc Cert.ScKernelIdeal.nD Cert.ScKernelIdeal.τ Cert.ScKernelIdeal.sig) → Buf (Elt Ideal) ℓ) (g : Dev Cert.ScKernelIdeal.nD → PrngReg)
    (m' : (ℓ : Loc Cert.ScReferenceIdeal.nD Cert.ScReferenceIdeal.τ Cert.ScReferenceIdeal.sig) → Buf (Elt Ideal) ℓ) (g' : Dev Cert.ScReferenceIdeal.nD → PrngReg), Pre_ScKernelIdeal m →
    (∀ c : Dev Cert.ScKernelIdeal.nD,
      m' ((c.tc : Thread Cert.ScReferenceIdeal.nD Cert.ScReferenceIdeal.τ).loc Cert.ScReferenceIdeal.main_arg0) = m ((c.tc : Thread Cert.ScKernelIdeal.nD Cert.ScKernelIdeal.τ).loc Cert.ScKernelIdeal.main_arg0)) →
    ∃ (v0 : (c : Dev Cert.ScKernelIdeal.nD) → Buf (Elt Ideal) ((c.tc : Thread Cert.ScKernelIdeal.nD Cert.ScKernelIdeal.τ).loc Cert.ScKernelIdeal.main_v2)),
      θ_run (Cert.ScKernelIdeal.defs (F := Ideal)) (Cert.ScKernelIdeal.threads (F := Ideal)) ⟨m, fun _ => 0, g⟩ (fun r => ∀ c : Dev Cert.ScKernelIdeal.nD,
          r.2.mem ((c.tc : Thread Cert.ScKernelIdeal.nD Cert.ScKernelIdeal.τ).loc Cert.ScKernelIdeal.main_v2) = v0 c
          ∧ r.2.mem ((c.tc : Thread Cert.ScKernelIdeal.nD Cert.ScKernelIdeal.τ).loc Cert.ScKernelIdeal.main_arg0) = m ((c.tc : Thread Cert.ScKernelIdeal.nD Cert.ScKernelIdeal.τ).loc Cert.ScKernelIdeal.main_arg0))
      ∧ θ_run (Cert.ScReferenceIdeal.defs (F := Ideal)) (onTc (τ := Cert.ScReferenceIdeal.τ) (Cert.ScReferenceIdeal.main (F := Ideal))) ⟨m', fun _ => 0, g'⟩ (fun r => ∀ c : Dev Cert.ScReferenceIdeal.nD,
          r.2.mem ((c.tc : Thread Cert.ScReferenceIdeal.nD Cert.ScReferenceIdeal.τ).loc Cert.ScReferenceIdeal.main_v1) = v0 c
          ∧ r.2.mem ((c.tc : Thread Cert.ScReferenceIdeal.nD Cert.ScReferenceIdeal.τ).loc Cert.ScReferenceIdeal.main_arg0) = m' ((c.tc : Thread Cert.ScReferenceIdeal.nD Cert.ScReferenceIdeal.τ).loc Cert.ScReferenceIdeal.main_arg0))

def Claim : Prop :=
  ∃ (hKernel : Cert.Kernel.Facts) (hKernelIdeal : Cert.KernelIdeal.Facts) (hReferenceIdeal : Cert.ReferenceIdeal.Facts) (hScKernel : Cert.ScKernel.Facts) (hScKernelIdeal : Cert.ScKernelIdeal.Facts) (hScReferenceIdeal : Cert.ScReferenceIdeal.Facts),
    quiescent_Kernel (hKernel := hKernel)
    ∧ quiescent_KernelIdeal (hKernelIdeal := hKernelIdeal)
    ∧ quiescent_ReferenceIdeal (hReferenceIdeal := hReferenceIdeal)
    ∧ quiescent_ScKernel (hScKernel := hScKernel)
    ∧ quiescent_ScKernelIdeal (hScKernelIdeal := hScKernelIdeal)
    ∧ quiescent_ScReferenceIdeal (hScReferenceIdeal := hScReferenceIdeal)
    ∧ preserves_Kernel_KernelIdeal
    ∧ algebraic_KernelIdeal_ReferenceIdeal (hKernelIdeal := hKernelIdeal) (hReferenceIdeal := hReferenceIdeal)
    ∧ preserves_ScKernel_ScKernelIdeal
    ∧ algebraic_ScKernelIdeal_ScReferenceIdeal (hScKernelIdeal := hScKernelIdeal) (hScReferenceIdeal := hScReferenceIdeal)
-- ==== Kernel.lean ====
abbrev S128x32768 : Shape := ⟨2, ![128, 32768]⟩
abbrev S128x128 : Shape := ⟨2, ![128, 128]⟩
abbrev S32x32768 : Shape := ⟨2, ![32, 32768]⟩
abbrev S32x128 : Shape := ⟨2, ![32, 128]⟩
abbrev S32 : Shape := ⟨1, ![32]⟩
abbrev S32x1 : Shape := ⟨2, ![32, 1]⟩
abbrev S128x1 : Shape := ⟨2, ![128, 1]⟩
abbrev S128 : Shape := ⟨1, ![128]⟩

abbrev nBuf : Space → Nat
  | .hbm => 4
  | .vmem => 4
  | .smem => 0
  | _ => 0

abbrev bufTy : (tb : Table) → Fin (tcTables nBuf tb) → BufTy
  | .hbm, ⟨0, _⟩ => ⟨S128x32768, .f32⟩
  | .hbm, ⟨1, _⟩ => ⟨S128x128, .i32⟩
  | .hbm, ⟨2, _⟩ => ⟨S128x1, .i32⟩
  | .hbm, ⟨3, _⟩ => ⟨S128, .i32⟩
  | .local _ .vmem, ⟨0, _⟩ => ⟨S32x32768, .f32⟩
  | .local _ .vmem, ⟨1, _⟩ => ⟨S32x32768, .f32⟩
  | .local _ .vmem, ⟨2, _⟩ => ⟨S32x128, .i32⟩
  | .local _ .vmem, ⟨3, _⟩ => ⟨S32x128, .i32⟩
  | _, _ => ⟨S128x32768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_14 : BitVec 32 := 0#32
  let c32_i32 : BitVec 32 := 32#32
  let v17 : BitVec 32 := Scalar.addi c0_i32_14 c32_i32
  let c1_i32 : BitVec 32 := 1#32
  ⟨c0_i32_14, v17, c1_i32⟩
def k0_off1 (k0_t1 : Fin k0_t1_loop.trips) (c0_i32_27 : BitVec 32) : Fin 2 → Nat :=
  let c0_29 : Index := 0#32
  let c0_i32_14 : BitVec 32 := 0#32
  let c1_i32 : BitVec 32 := 1#32
  let arg3 : BitVec 32 := Scf.iv c0_i32_14 c1_i32 k0_t1
  let c8_i32 : BitVec 32 := 8#32
  let v120 : BitVec 32 := Scalar.muli arg3 c8_i32
  let v121 : BitVec 32 := Scalar.addi v120 c0_i32_27
  let c128_i32_28 : BitVec 32 := 128#32
  let v122 : BitVec 32 := Scalar.muli v121 c128_i32_28
  let v123 : Index := Scalar.indexCast v122
  ![0, v123.toNat]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S128x32768 : Shape := ⟨2, ![128, 32768]⟩
abbrev S_ : Shape := ⟨0, ![]⟩
abbrev S128 : Shape := ⟨1, ![128]⟩

abbrev nBuf : Space → Nat
  | .hbm => 6
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128x32768, .i32⟩
  | .hbm, ⟨2, _⟩ => ⟨S_, .f32⟩
  | .hbm, ⟨3, _⟩ => ⟨S_, .i32⟩
  | .hbm, ⟨4, _⟩ => ⟨S128, .f32⟩
  | .hbm, ⟨5, _⟩ => ⟨S128, .i32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩

abbrev nD : Nat := 1
abbrev τ : Topo := Topo.v7x

variable {F : FTy → Type} [FloatOps F]
-- ==== ScKernel.lean ====
abbrev S128x32768 : Shape := ⟨2, ![128, 32768]⟩
abbrev S32x16 : Shape := ⟨2, ![32, 16]⟩
abbrev S2x8192 : Shape := ⟨2, ![2, 8192]⟩
abbrev S16 : Shape := ⟨1, ![16]⟩
abbrev S_ : Shape := ⟨0, ![]⟩
abbrev S1x8192 : Shape := ⟨2, ![1, 8192]⟩
abbrev S8192 : Shape := ⟨1, ![8192]⟩
abbrev S1x16 : Shape := ⟨2, ![1, 16]⟩
abbrev S32x1 : Shape := ⟨2, ![32, 1]⟩
abbrev S32 : Shape := ⟨1, ![32]⟩

abbrev nBuf : Table → Nat
  | .hbm => 4
  | .local .scVector .vmem => 4
  | _ => 0

abbrev bufTy : (tb : Table) → Fin (nBuf tb) → BufTy
  | .hbm, ⟨0, _⟩ => ⟨S128x32768, .f32⟩
  | .hbm, ⟨1, _⟩ => ⟨S32x16, .i32⟩
  | .hbm, ⟨2, _⟩ => ⟨S32x1, .i32⟩
  | .hbm, ⟨3, _⟩ => ⟨S32, .i32⟩
  | .local .scVector .vmem, ⟨0, _⟩ => ⟨S2x8192, .f32⟩
  | .local .scVector .vmem, ⟨1, _⟩ => ⟨S16, .i32⟩
  | .local .scVector .vmem, ⟨2, _⟩ => ⟨S16, .f32⟩
  | .local .scVector .vmem, ⟨3, _⟩ => ⟨S16, .i32⟩
  | _, _ => ⟨S128x32768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_arg0_scv : Ref sig .scVector := ⟨.hbm, 0, rfl⟩
abbrev main_v0_scv : Ref sig .scVector := ⟨.hbm, 1, rfl⟩
abbrev cc0_scratch0 : Ref sig .scVector := ⟨.vmem, 0, rfl⟩
abbrev cc0_scratch1 : Ref sig .scVector := ⟨.vmem, 1, rfl⟩
abbrev cc0_scratch4 : Ref sig .scVector := ⟨.vmem, 2, rfl⟩
abbrev cc0_scratch5 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_16 : BitVec 32 := 0#32
  ![v1.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  ![v1.toNat, 8192]
@[reducible] def k0_t1_loop : Scf.Loop 32 :=
  let c0_i32_28 : BitVec 32 := 0#32
  let c64_i32 : BitVec 32 := 64#32
  let v43 : BitVec 32 := Scalar.addi c0_i32_28 c64_i32
  let c1_i32_29 : BitVec 32 := 1#32
  ⟨c0_i32_28, v43, c1_i32_29⟩
def k0_off3 (k0_t1 : Fin k0_t1_loop.trips) (c0_i32_107 : BitVec 32) : Fin 1 → Nat :=
  let c0_i32_105 : BitVec 32 := 0#32
  let c0_i32_28 : BitVec 32 := 0#32
  let c1_i32_29 : BitVec 32 := 1#32
  let arg10 : BitVec 32 := Scf.iv c0_i32_28 c1_i32_29 k0_t1
  let c1_i32_104 : BitVec 32 := 1#32
  let v270 : BitVec 32 := Scalar.muli arg10 c1_i32_104
  let v271 : BitVec 32 := Scalar.addi c0_i32_105 v270
  let c128_i32 : BitVec 32 := 128#32
  let v272 : BitVec 32 := Scalar.muli v271 c128_i32
  let v275 : BitVec 32 := Scalar.addi v272 c0_i32_107
  let v278 : Index := Scalar.indexCast v275
  ![v278.toNat]
def k0_off4 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16384_i32 : BitVec 32 := 16384#32
  ![v1.toNat, 16384]
@[reducible] def k0_t2_loop : Scf.Loop 32 :=
  let c0_i32_41 : BitVec 32 := 0#32
  let c64_i32_42 : BitVec 32 := 64#32
  let v61 : BitVec 32 := Scalar.addi c0_i32_41 c64_i32_42
  let c1_i32_43 : BitVec 32 := 1#32
  ⟨c0_i32_41, v61, c1_i32_43⟩
def k0_off5 (k0_t2 : Fin k0_t2_loop.trips) (c0_i32_107 : BitVec 32) : Fin 1 → Nat :=
  let c0_i32_105 : BitVec 32 := 0#32
  let c0_i32_41 : BitVec 32 := 0#32
  let c1_i32_43 : BitVec 32 := 1#32
  let arg10 : BitVec 32 := Scf.iv c0_i32_41 c1_i32_43 k0_t2
  let c1_i32_104 : BitVec 32 := 1#32
  let v270 : BitVec 32 := Scalar.muli arg10 c1_i32_104
  let v271 : BitVec 32 := Scalar.addi c0_i32_105 v270
  let c128_i32 : BitVec 32 := 128#32
  let v272 : BitVec 32 := Scalar.muli v271 c128_i32
  let v275 : BitVec 32 := Scalar.addi v272 c0_i32_107
  let v278 : Index := Scalar.indexCast v275
  ![v278.toNat]
def k0_off6 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c24576_i32 : BitVec 32 := 24576#32
  ![v1.toNat, 24576]
@[reducible] def k0_t3_loop : Scf.Loop 32 :=
  let c0_i32_55 : BitVec 32 := 0#32
  let c64_i32_56 : BitVec 32 := 64#32
  let v79 : BitVec 32 := Scalar.addi c0_i32_55 c64_i32_56
  let c1_i32_57 : BitVec 32 := 1#32
  ⟨c0_i32_55, v79, c1_i32_57⟩
def k0_off7 (k0_t3 : Fin k0_t3_loop.trips) (c0_i32_107 : BitVec 32) : Fin 1 → Nat :=
  let c0_i32_105 : BitVec 32 := 0#32
  let c0_i32_55 : BitVec 32 := 0#32
  let c1_i32_57 : BitVec 32 := 1#32
  let arg10 : BitVec 32 := Scf.iv c0_i32_55 c1_i32_57 k0_t3
  let c1_i32_104 : BitVec 32 := 1#32
  let v270 : BitVec 32 := Scalar.muli arg10 c1_i32_104
  let v271 : BitVec 32 := Scalar.addi c0_i32_105 v270
  let c128_i32 : BitVec 32 := 128#32
  let v272 : BitVec 32 := Scalar.muli v271 c128_i32
  let v275 : BitVec 32 := Scalar.addi v272 c0_i32_107
  let v278 : Index := Scalar.indexCast v275
  ![v278.toNat]
@[reducible] def k0_t4_loop : Scf.Loop 32 :=
  let c0_i32_65 : BitVec 32 := 0#32
  let c64_i32_66 : BitVec 32 := 64#32
  let v89 : BitVec 32 := Scalar.addi c0_i32_65 c64_i32_66
  let c1_i32_67 : BitVec 32 := 1#32
  ⟨c0_i32_65, v89, c1_i32_67⟩
def k0_off8 (k0_t4 : Fin k0_t4_loop.trips) (c0_i32_106 : BitVec 32) : Fin 1 → Nat :=
  let c0_i32_105 : BitVec 32 := 0#32
  let c0_i32_65 : BitVec 32 := 0#32
  let c1_i32_67 : BitVec 32 := 1#32
  let arg10 : BitVec 32 := Scf.iv c0_i32_65 c1_i32_67 k0_t4
  let c1_i32_104 : BitVec 32 := 1#32
  let v270 : BitVec 32 := Scalar.muli arg10 c1_i32_104
  let v271 : BitVec 32 := Scalar.addi c0_i32_105 v270
  let c128_i32 : BitVec 32 := 128#32
  let v272 : BitVec 32 := Scalar.muli v271 c128_i32
  let v275 : BitVec 32 := Scalar.addi v272 c0_i32_106
  let v278 : Index := Scalar.indexCast v275
  ![v278.toNat]

def k0_chk1 (v198 : IVec S16 32) : Prop :=
  (∀ a x, ((![v198] : Fin 1 → IVec S16 32) a x).toNat < S16.size a)
theorem k0_idx1_inb : ∀ (v198 : IVec S16 32) (k0_hw1 : k0_chk1 v198), ∀ a x, ((![v198] : Fin 1 → IVec S16 32) a x).toNat < S16.size a := fun v198 k0_hw1 => k0_hw1

def k0_chk2 (v206 : IVec S16 32) : Prop :=
  (∀ a x, ((![v206] : Fin 1 → IVec S16 32) a x).toNat < S16.size a)
theorem k0_idx2_inb : ∀ (v206 : IVec S16 32) (k0_hw2 : k0_chk2 v206), ∀ a x, ((![v206] : Fin 1 → IVec S16 32) a x).toNat < S16.size a := fun v206 k0_hw2 => k0_hw2

def k0_chk3 (v214 : IVec S16 32) : Prop :=
  (∀ a x, ((![v214] : Fin 1 → IVec S16 32) a x).toNat < S16.size a)
theorem k0_idx3_inb : ∀ (v214 : IVec S16 32) (k0_hw3 : k0_chk3 v214), ∀ a x, ((![v214] : Fin 1 → IVec S16 32) a x).toNat < S16.size a := fun v214 k0_hw3 => k0_hw3

def k0_chk4 (v222 : IVec S16 32) : Prop :=
  (∀ a x, ((![v222] : Fin 1 → IVec S16 32) a x).toNat < S16.size a)
theorem k0_idx4_inb : ∀ (v222 : IVec S16 32) (k0_hw4 : k0_chk4 v222), ∀ a x, ((![v222] : Fin 1 → IVec S16 32) a x).toNat < S16.size a := fun v222 k0_hw4 => k0_hw4

def k0_chk5 (v233 : IVec S16 32) : Prop :=
  (∀ a x, ((![v233] : Fin 1 → IVec S16 32) a x).toNat < S16.size a)
theorem k0_idx5_inb : ∀ (v233 : IVec S16 32) (k0_hw5 : k0_chk5 v233), ∀ a x, ((![v233] : Fin 1 → IVec S16 32) a x).toNat < S16.size a := fun v233 k0_hw5 => k0_hw5

def k0_chk6 (v241 : IVec S16 32) : Prop :=
  (∀ a x, ((![v241] : Fin 1 → IVec S16 32) a x).toNat < S16.size a)
theorem k0_idx6_inb : ∀ (v241 : IVec S16 32) (k0_hw6 : k0_chk6 v241), ∀ a x, ((![v241] : Fin 1 → IVec S16 32) a x).toNat < S16.size a := fun v241 k0_hw6 => k0_hw6

def k0_chk7 (v249 : IVec S16 32) : Prop :=
  (∀ a x, ((![v249] : Fin 1 → IVec S16 32) a x).toNat < S16.size a)
theorem k0_idx7_inb : ∀ (v249 : IVec S16 32) (k0_hw7 : k0_chk7 v249), ∀ a x, ((![v249] : Fin 1 → IVec S16 32) a x).toNat < S16.size a := fun v249 k0_hw7 => k0_hw7

def k0_chk8 (v257 : IVec S16 32) : Prop :=
  (∀ a x, ((![v257] : Fin 1 → IVec S16 32) a x).toNat < S16.size a)
theorem k0_idx8_inb : ∀ (v257 : IVec S16 32) (k0_hw8 : k0_chk8 v257), ∀ a x, ((![v257] : Fin 1 → IVec S16 32) a x).toNat < S16.size a := fun v257 k0_hw8 => k0_hw8
def k0_off9 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_104_r0 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ScReferenceIdeal.lean ====
abbrev S128x32768 : Shape := ⟨2, ![128, 32768]⟩
abbrev S32x32768 : Shape := ⟨2, ![32, 32768]⟩
abbrev S_ : Shape := ⟨0, ![]⟩
abbrev S32 : Shape := ⟨1, ![32]⟩

abbrev nBuf : Space → Nat
  | .hbm => 7
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S32x32768, .f32⟩
  | .hbm, ⟨2, _⟩ => ⟨S32x32768, .i32⟩
  | .hbm, ⟨3, _⟩ => ⟨S_, .f32⟩
  | .hbm, ⟨4, _⟩ => ⟨S_, .i32⟩
  | .hbm, ⟨5, _⟩ => ⟨S32, .f32⟩
  | .hbm, ⟨6, _⟩ => ⟨S32, .i32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v1 : Ref sig .tc := ⟨.hbm, 6, rfl⟩

abbrev nD : Nat := 1
abbrev τ : Topo := Topo.v7x

variable {F : FTy → Type} [FloatOps F]
-- ==== Proof.ArgMax.lean ====
/-
  The first position of a greatest value, as both the kernel and the reference find it (hand-written).

  `First f S v i` says that `i` is the first position of the set `S` at which `f` is greatest, and that `v` is the
  value there. It determines `i` (`First.unique`). The lemmas below say that each step of the computations keeps it:
    * `Slot`: the running maximum of one accumulator slot with the step at which it was met (a strict compare keeps
      the earlier step), read off as `First` over the slot's positions by `Slot.first`;
    * `First.merge`: two candidates compared by value and, on equal values, by position;
    * `First.lanes`: the greatest of several lanes' values and the least of the positions that carry it;
    * `Best`: the reference's fold, which starts at (−∞, 0) and takes the positions in any order.
  Positions are 32-bit words compared as signed numbers, so each lemma asks that they are below 2³¹.
-/
module

public import Idealize.ShloMosaic.Lib.Pointwise
public import Idealize.ShloMosaic.Lib.WordCmp
public import Idealize.ShloMosaic.Lib.WordArith
public import Idealize.ShloMosaic.PureOps.Ideal.Laws

@[expose] public section

noncomputable section

namespace Cert.ArgMax

open Idealize.ShloMosaic Idealize.ShloMosaic.WordCmp

/-- A select between two values by a decided comparison. -/
theorem select_ofBool {α : Type} (p : Prop) [Decidable p] (a b : α) :
    Scalar.select (BitVec.ofBool (decide p)) a b = if p then a else b := by
  by_cases h : p <;> simp [Scalar.select, h]

theorem cmpf_ogt (x y : EReal) : FloatOps.cmpf (F := Ideal) (φ := .f32) .ogt x y = BitVec.ofBool (decide (y < x)) := rfl
theorem cmpf_oeq (x y : EReal) : FloatOps.cmpf (F := Ideal) (φ := .f32) .oeq x y = BitVec.ofBool (decide (x = y)) := rfl
theorem cmpf_une (x y : EReal) : FloatOps.cmpf (F := Ideal) (φ := .f32) .une x y = BitVec.ofBool (decide (x ≠ y)) := rfl

/-- The signed order of two words below 2³¹ is the order of the numbers. -/
theorem slt_eq (a b : BitVec 32) (ha : a.toNat < 2 ^ 31) (hb : b.toNat < 2 ^ 31) :
    IntOp.cmpi .slt a b = BitVec.ofBool (decide (a.toNat < b.toNat)) := cmpi_slt_of_lt (by simpa using ha) (by simpa using hb)

/-- The first position of `S` at which `f` is greatest, and its value. -/
structure First (f : ℕ → EReal) (S : Set ℕ) (v : EReal) (i : ℕ) : Prop where
  mem : i ∈ S
  val : f i = v
  le : ∀ k ∈ S, f k ≤ v
  first : ∀ k ∈ S, f k = v → i ≤ k

theorem First.unique {f : ℕ → EReal} {S : Set ℕ} {v w : EReal} {i k : ℕ} (h : First f S v i) (h' : First f S w k) : i = k := by
  have hvw : v = w := le_antisymm (h.val ▸ h'.le i h.mem) (h'.val ▸ h.le k h'.mem)
  exact le_antisymm (h.first k h'.mem (h'.val.trans hvw.symm)) (h'.first i h.mem (h.val.trans hvw))

/-- Whether the first of two candidates wins: the greater value, on equal values the smaller position. -/
abbrev wins (v w : EReal) (a b : BitVec 32) : BitVec 1 :=
  IntOp.ori (FloatOps.cmpf (F := Ideal) (φ := .f32) .ogt v w)
    (IntOp.andi (FloatOps.cmpf (F := Ideal) (φ := .f32) .oeq v w) (IntOp.cmpi .slt a b))

theorem wins_eq (v w : EReal) (a b : BitVec 32) (ha : a.toNat < 2 ^ 31) (hb : b.toNat < 2 ^ 31) :
    wins v w a b = BitVec.ofBool (decide (w < v ∨ (v = w ∧ a.toNat < b.toNat))) := by
  rw [wins, cmpf_ogt, cmpf_oeq, slt_eq a b ha hb, andi_ofBool, ori_ofBool]
  congr 1
  simp

/-- Two candidates merged: the first position of the union. -/
theorem First.merge {f : ℕ → EReal} {S T : Set ℕ} {v w : EReal} {a b : BitVec 32} (ha : a.toNat < 2 ^ 31) (hb : b.toNat < 2 ^ 31)
    (h : First f S v a.toNat) (h' : First f T w b.toNat) :
    First f (S ∪ T) (Scalar.select (wins v w a b) v w) (Scalar.select (wins v w a b) a b).toNat
      ∧ (Scalar.select (wins v w a b) a b).toNat < 2 ^ 31 := by
  rw [wins_eq v w a b ha hb, select_ofBool, select_ofBool]
  by_cases hp : w < v ∨ (v = w ∧ a.toNat < b.toNat)
  · rw [if_pos hp, if_pos hp]
    refine ⟨⟨Or.inl h.mem, h.val, ?_, ?_⟩, ha⟩
    · rintro k (hk | hk)
      · exact h.le k hk
      · exact (h'.le k hk).trans (hp.elim le_of_lt fun e => e.1.ge)
    · rintro k (hk | hk) e
      · exact h.first k hk e
      · rcases hp with hp | ⟨hp, hlt⟩
        · exact absurd (h'.le k hk) (by rw [e]; exact not_le.mpr hp)
        · exact hlt.le.trans (h'.first k hk (e.trans hp))
  · rw [if_neg hp, if_neg hp]
    have hvw : v ≤ w := not_lt.mp fun hlt => hp (Or.inl hlt)
    refine ⟨⟨Or.inr h'.mem, h'.val, ?_, ?_⟩, hb⟩
    · rintro k (hk | hk)
      · exact (h.le k hk).trans hvw
      · exact h'.le k hk
    · rintro k (hk | hk) e
      · have hv : v = w := le_antisymm hvw (e ▸ h.le k hk)
        have hab : b.toNat ≤ a.toNat := not_lt.mp fun hlt => hp (Or.inr ⟨hv, hlt⟩)
        exact hab.trans (h.first k hk (e.trans hv.symm))
      · exact h'.first k hk e

/-- A candidate: the first greatest position of a set as a word below 2³¹, with its value. -/
def Cand (f : ℕ → EReal) (S : Set ℕ) (v : EReal) (a : BitVec 32) : Prop := First f S v a.toNat ∧ a.toNat < 2 ^ 31

theorem Cand.merge {f : ℕ → EReal} {S T : Set ℕ} {v w : EReal} {a b : BitVec 32} (h : Cand f S v a) (h' : Cand f T w b) :
    Cand f (S ∪ T) (Scalar.select (wins v w a b) v w) (Scalar.select (wins v w a b) a b) := h.1.merge h.2 h'.2 h'.1

/-- One accumulator slot after `T` steps over the values `g 0, g 1, …`: the running maximum and the step that met it
    first; the slot starts at (−∞, 0). -/
structure Slot (g : ℕ → EReal) (T : ℕ) (v : EReal) (s : BitVec 32) : Prop where
  le : ∀ j < T, g j ≤ v
  met : (s.toNat < T ∧ g s.toNat = v) ∨ (v = ⊥ ∧ s = 0#32)
  lt : ∀ j < s.toNat, g j < v

theorem Slot.zero (g : ℕ → EReal) : Slot g 0 ⊥ 0#32 :=
  ⟨fun j h => absurd h (Nat.not_lt_zero j), Or.inr ⟨rfl, rfl⟩, fun j h => absurd h (by simp)⟩

/-- One step: a strictly greater value replaces the maximum and its step. -/
theorem Slot.succ {g : ℕ → EReal} {T : ℕ} {v x : EReal} {s iv : BitVec 32} (h : Slot g T v s) (hx : x = g T) (hiv : iv.toNat = T) :
    Slot g (T + 1) (Scalar.select (FloatOps.cmpf (F := Ideal) (φ := .f32) .ogt x v) x v)
      (Scalar.select (FloatOps.cmpf (F := Ideal) (φ := .f32) .ogt x v) iv s) := by
  rw [cmpf_ogt, select_ofBool, select_ofBool]
  subst hx
  by_cases hp : v < g T
  · rw [if_pos hp, if_pos hp]
    refine ⟨fun j hj => ?_, Or.inl ⟨by omega, by rw [hiv]⟩, fun j hj => ?_⟩
    · rcases Nat.lt_succ_iff_lt_or_eq.mp hj with hj | rfl
      · exact (h.le j hj).trans hp.le
      · exact le_rfl
    · exact lt_of_le_of_lt (h.le j (hiv ▸ hj)) hp
  · rw [if_neg hp, if_neg hp]
    refine ⟨fun j hj => ?_, h.met.imp (fun e => ⟨by omega, e.2⟩) id, h.lt⟩
    rcases Nat.lt_succ_iff_lt_or_eq.mp hj with hj | rfl
    · exact h.le j hj
    · exact not_lt.mp hp

/-- A slot that has seen a value holds the first greatest one of its positions `pos 0 < pos 1 < …`. -/
theorem Slot.first {f g : ℕ → EReal} {pos : ℕ → ℕ} {T : ℕ} {v : EReal} {s a : BitVec 32} (h : Slot g T v s) (hT : 0 < T)
    (hg : ∀ j < T, f (pos j) = g j) (hpos : StrictMono pos) (ha : a.toNat = pos s.toNat) :
    First f {k | ∃ j < T, k = pos j} v a.toNat := by
  have hs : s.toNat < T ∧ g s.toNat = v := by
    rcases h.met with e | ⟨e, rfl⟩
    · exact e
    · have h0 := h.le 0 hT
      rw [e] at h0 ⊢
      exact ⟨hT, le_bot_iff.mp h0⟩
  refine ⟨⟨s.toNat, hs.1, ha⟩, by rw [ha, hg _ hs.1, hs.2], ?_, ?_⟩
  · rintro k ⟨j, hj, rfl⟩
    rw [hg j hj]; exact h.le j hj
  · rintro k ⟨j, hj, rfl⟩ e
    rw [hg j hj] at e
    rw [ha]
    exact hpos.monotone (not_lt.mp fun hlt => absurd e (h.lt j hlt).ne)

/-- The lanes' candidates reduced: `m` the greatest value, `r` the least of the positions of the lanes that carry it. -/
theorem First.lanes {f : ℕ → EReal} {ι : Type} {S : ι → Set ℕ} {v : ι → EReal} {a : ι → BitVec 32} {m : EReal} {r : BitVec 32}
    (h : ∀ l, First f (S l) (v l) (a l).toNat) (hm : ∀ l, v l ≤ m) (hr : ∃ l, v l = m ∧ r = a l)
    (hmin : ∀ l, v l = m → r.toNat ≤ (a l).toNat) : First f {k | ∃ l, k ∈ S l} m r.toNat := by
  obtain ⟨l, hl, rfl⟩ := hr
  refine ⟨⟨l, (h l).mem⟩, (h l).val.trans hl, ?_, ?_⟩
  · rintro k ⟨l', hk⟩
    exact ((h l').le k hk).trans (hm l')
  · rintro k ⟨l', hk⟩ e
    have hl' : v l' = m := le_antisymm (hm l') (e ▸ (h l').le k hk)
    exact (hmin l' hl').trans ((h l').first k hk (e.trans hl'.symm))

/-- The candidate of a lane: its position where its value is the greatest, else the number of columns. -/
theorem select_oeq (v m : EReal) (a b : BitVec 32) :
    Scalar.select (FloatOps.cmpf (F := Ideal) (φ := .f32) .oeq v m) a b = if v = m then a else b := by
  rw [cmpf_oeq, select_ofBool]

/-- A fold of the maximum from −∞ bounds every value and is one of them. -/
theorem fold_max {ι : Type} [Fintype ι] [DecidableEq ι] [Nonempty ι] (v : ι → EReal) :
    (∀ l, v l ≤ Finset.univ.fold max (⊥ : EReal) v) ∧ ∃ l, v l = Finset.univ.fold max (⊥ : EReal) v := by
  have hle : ∀ l, v l ≤ Finset.univ.fold max (⊥ : EReal) v := fun l => (Finset.le_fold_max (v l)).mpr (Or.inr ⟨l, Finset.mem_univ l, le_rfl⟩)
  refine ⟨hle, ?_⟩
  obtain ⟨l, -, hl⟩ := Finset.exists_max_image Finset.univ v Finset.univ_nonempty
  exact ⟨l, le_antisymm (hle l) ((Finset.fold_max_le _).mpr ⟨bot_le, fun x hx => hl x hx⟩)⟩

/-- A fold of the signed minimum over words below 2³¹ bounds every one from below, and is one of them or the start. -/
theorem fold_minsi {ι : Type} [DecidableEq ι] (s : Finset ι) (c : ι → BitVec 32) (b : BitVec 32) (hb : b.toNat < 2 ^ 31)
    (hc : ∀ l, (c l).toNat < 2 ^ 31) :
    (s.fold IntOp.minsi b c).toNat < 2 ^ 31 ∧ (s.fold IntOp.minsi b c).toNat ≤ b.toNat
      ∧ (∀ l ∈ s, (s.fold IntOp.minsi b c).toNat ≤ (c l).toNat)
      ∧ (s.fold IntOp.minsi b c = b ∨ ∃ l ∈ s, s.fold IntOp.minsi b c = c l) := by
  induction s using Finset.induction_on with
  | empty => exact ⟨hb, le_rfl, fun l hl => absurd hl (Finset.notMem_empty l), Or.inl rfl⟩
  | insert x s hx ih =>
    obtain ⟨h1, h2, h3, h4⟩ := ih
    rw [Finset.fold_insert hx]
    have e := Idealize.ShloMosaic.WordArith.toNat_minsi_of_lt (c x) (s.fold IntOp.minsi b c) (hc x) h1
    refine ⟨?_, ?_, ?_, ?_⟩
    · rw [e]; exact lt_of_le_of_lt (min_le_right _ _) h1
    · rw [e]; exact (min_le_right _ _).trans h2
    · intro l hl
      rw [e]
      rcases Finset.mem_insert.mp hl with rfl | hl
      · exact min_le_left _ _
      · exact (min_le_right _ _).trans (h3 l hl)
    · have : IntOp.minsi (c x) (s.fold IntOp.minsi b c) = c x ∨ IntOp.minsi (c x) (s.fold IntOp.minsi b c) = s.fold IntOp.minsi b c := by
        unfold IntOp.minsi; split <;> simp
      rcases this with e' | e' <;> rw [e']
      · exact Or.inr ⟨x, Finset.mem_insert_self x s, rfl⟩
      · exact h4.imp id fun ⟨l, hl, e⟩ => ⟨l, Finset.mem_insert_of_mem hl, e⟩

/-- The final reduction over the lanes by two folds: the maximum of the values, and the minimum of the candidates. -/
theorem First.fold_lanes {f : ℕ → EReal} {ι : Type} [Fintype ι] [DecidableEq ι] [Nonempty ι] {S : ι → Set ℕ} {v : ι → EReal}
    {a : ι → BitVec 32} {m : EReal} (b c : BitVec 32) (hb : b.toNat < 2 ^ 31) (hc : c.toNat < 2 ^ 31) (hbc : c.toNat ≤ b.toNat)
    (h : ∀ l, First f (S l) (v l) (a l).toNat) (ha : ∀ l, (a l).toNat < c.toNat) (hm : m = Finset.univ.fold max (⊥ : EReal) v) :
    First f {k | ∃ l, k ∈ S l} m
      (Finset.univ.fold IntOp.minsi b (fun l => Scalar.select (FloatOps.cmpf (F := Ideal) (φ := .f32) .oeq (v l) m) (a l) c)).toNat := by
  subst hm
  obtain ⟨hle, l₀, hl₀⟩ := fold_max v
  have hc' : ∀ l, (Scalar.select (FloatOps.cmpf (F := Ideal) (φ := .f32) .oeq (v l) (Finset.univ.fold max (⊥ : EReal) v)) (a l) c).toNat < 2 ^ 31 := by
    intro l; rw [select_oeq]; split
    · exact (ha l).trans hc
    · exact hc
  obtain ⟨-, -, h3, h4⟩ := fold_minsi Finset.univ _ b hb hc'
  have hl : ∀ l, v l = Finset.univ.fold max (⊥ : EReal) v → (Finset.univ.fold IntOp.minsi b (fun l => Scalar.select (FloatOps.cmpf (F := Ideal) (φ := .f32) .oeq (v l) (Finset.univ.fold max (⊥ : EReal) v)) (a l) c)).toNat ≤ (a l).toNat := fun l e => by
    have := h3 l (Finset.mem_univ l)
    rwa [select_oeq (v l), if_pos e] at this
  refine First.lanes h hle ?_ hl
  rcases h4 with e | ⟨l, -, e⟩
  · have := hl l₀ hl₀
    rw [e] at this
    have := ha l₀; omega
  · rw [e, select_oeq]
    by_cases hv : v l = Finset.univ.fold max (⊥ : EReal) v
    · exact ⟨l, hv, if_pos hv⟩
    · exfalso
      have h5 := hl l₀ hl₀
      rw [e, select_oeq, if_neg hv] at h5
      have := ha l₀; omega

/-! ### The reference's fold -/

/-- What the fold has after the positions of `S`: a bound of the values, with the first position that meets it, or the
    start (−∞, 0). -/
structure Best (f : ℕ → EReal) (S : Set ℕ) (v : EReal) (i : ℕ) : Prop where
  le : ∀ k ∈ S, f k ≤ v
  first : ∀ k ∈ S, f k = v → i ≤ k
  met : (i ∈ S ∧ f i = v) ∨ (v = ⊥ ∧ i = 0)

theorem Best.empty (f : ℕ → EReal) : Best f ∅ ⊥ 0 :=
  ⟨fun _ h => h.elim, fun _ h => h.elim, Or.inr ⟨rfl, rfl⟩⟩

/-- The reference's step: the fold's pair against the next value and position. -/
theorem Best.step {f : ℕ → EReal} {S : Set ℕ} {v x : EReal} {a b : BitVec 32} {k : ℕ} (h : Best f S v a.toNat)
    (ha : a.toNat < 2 ^ 31) (hk : k < 2 ^ 31) (hx : x = f k) (hb : b.toNat = k) :
    Best f (insert k S)
        (Scalar.select (IntOp.ori (FloatOps.cmpf (F := Ideal) (φ := .f32) .ogt v x) (FloatOps.cmpf (F := Ideal) (φ := .f32) .une v v)) v x)
        (Scalar.select (IntOp.ori (IntOp.ori (FloatOps.cmpf (F := Ideal) (φ := .f32) .ogt v x) (FloatOps.cmpf (F := Ideal) (φ := .f32) .une v v))
          (IntOp.andi (FloatOps.cmpf (F := Ideal) (φ := .f32) .oeq v x) (IntOp.cmpi .slt a b))) a b).toNat
      ∧ (Scalar.select (IntOp.ori (IntOp.ori (FloatOps.cmpf (F := Ideal) (φ := .f32) .ogt v x) (FloatOps.cmpf (F := Ideal) (φ := .f32) .une v v))
          (IntOp.andi (FloatOps.cmpf (F := Ideal) (φ := .f32) .oeq v x) (IntOp.cmpi .slt a b))) a b).toNat < 2 ^ 31 := by
  have hb' : b.toNat < 2 ^ 31 := by omega
  have e1 : IntOp.ori (FloatOps.cmpf (F := Ideal) (φ := .f32) .ogt v x) (FloatOps.cmpf (F := Ideal) (φ := .f32) .une v v)
      = BitVec.ofBool (decide (x < v)) := by
    rw [cmpf_ogt, cmpf_une, ori_ofBool]; congr 1; simp
  rw [e1, cmpf_oeq, slt_eq a b ha hb', andi_ofBool, ori_ofBool, ← Bool.decide_and, ← Bool.decide_or, select_ofBool, select_ofBool]
  subst hx hb
  by_cases h1 : f b.toNat < v
  · rw [if_pos h1, if_pos (Or.inl h1)]
    refine ⟨⟨?_, ?_, ?_⟩, ha⟩
    · rintro k (rfl | hk)
      · exact h1.le
      · exact h.le k hk
    · rintro k (rfl | hk) e
      · exact absurd e h1.ne
      · exact h.first k hk e
    · exact h.met.imp (fun e => ⟨Or.inr e.1, e.2⟩) id
  · rw [if_neg h1]
    by_cases h2 : v = f b.toNat ∧ a.toNat < b.toNat
    · rw [if_pos (Or.inr h2)]
      refine ⟨⟨?_, ?_, ?_⟩, ha⟩
      · rintro k (rfl | hk)
        · exact le_rfl
        · exact h2.1 ▸ h.le k hk
      · rintro k (rfl | hk) e
        · exact h2.2.le
        · exact h.first k hk (e.trans h2.1.symm)
      · exact h.met.imp (fun e => ⟨Or.inr e.1, e.2.trans h2.1⟩) fun e => ⟨h2.1.symm.trans e.1, e.2⟩
    · rw [if_neg (not_or.mpr ⟨h1, h2⟩)]
      have hle : v ≤ f b.toNat := not_lt.mp h1
      refine ⟨⟨?_, ?_, Or.inl ⟨Or.inl rfl, rfl⟩⟩, hb'⟩
      · rintro k (rfl | hk)
        · exact le_rfl
        · exact (h.le k hk).trans hle
      · rintro k (rfl | hk) e
        · exact le_rfl
        · have hv : v = f b.toNat := le_antisymm hle (e ▸ h.le k hk)
          have hab : b.toNat ≤ a.toNat := not_lt.mp fun hlt => h2 ⟨hv, hlt⟩
          exact hab.trans (h.first k hk (e.trans hv.symm))

/-- Over a set that has position 0, the fold's result is the first greatest one. -/
theorem Best.toFirst {f : ℕ → EReal} {S : Set ℕ} {v : EReal} {i : ℕ} (h : Best f S v i) (h0 : 0 ∈ S) : First f S v i := by
  have hm : i ∈ S ∧ f i = v := by
    rcases h.met with e | ⟨e, rfl⟩
    · exact e
    · have := h.le 0 h0
      rw [e] at this ⊢
      exact ⟨h0, le_bot_iff.mp this⟩
  exact ⟨hm.1, hm.2, h.le, h.first⟩

/-- The reference's reducer. -/
def refStep (a b : EReal × BitVec 32) : EReal × BitVec 32 :=
  (Scalar.select (IntOp.ori (FloatOps.cmpf (F := Ideal) (φ := .f32) .ogt a.1 b.1) (FloatOps.cmpf (F := Ideal) (φ := .f32) .une a.1 a.1)) a.1 b.1,
    Scalar.select (IntOp.ori (IntOp.ori (FloatOps.cmpf (F := Ideal) (φ := .f32) .ogt a.1 b.1) (FloatOps.cmpf (F := Ideal) (φ := .f32) .une a.1 a.1))
      (IntOp.andi (FloatOps.cmpf (F := Ideal) (φ := .f32) .oeq a.1 b.1) (IntOp.cmpi .slt a.2 b.2))) a.2 b.2)

/-- The reference's fold over a list of values paired with their positions. -/
theorem Best.foldl {f : ℕ → EReal} (L : List (EReal × BitVec 32)) (hL : ∀ p ∈ L, p.2.toNat < 2 ^ 31 ∧ p.1 = f p.2.toNat) :
    ∀ (S : Set ℕ) (z : EReal × BitVec 32), Best f S z.1 z.2.toNat → z.2.toNat < 2 ^ 31 →
      Best f (S ∪ {k | ∃ p ∈ L, k = p.2.toNat}) (L.foldl refStep z).1 (L.foldl refStep z).2.toNat := by
  induction L with
  | nil => intro S z hz _; simpa using hz
  | cons p L ih =>
    intro S z hz hlt
    have hp := hL p List.mem_cons_self
    obtain ⟨h1, h2⟩ := hz.step hlt hp.1 hp.2 rfl
    have := ih (fun q hq => hL q (List.mem_cons_of_mem p hq)) (insert p.2.toNat S) (refStep z p) h1 h2
    have hS : insert p.2.toNat S ∪ {k | ∃ q ∈ L, k = q.2.toNat} = S ∪ {k | ∃ q ∈ p :: L, k = q.2.toNat} := by
      ext k
      simp only [Set.mem_union, Set.mem_insert_iff, Set.mem_setOf_eq, List.mem_cons, exists_eq_or_imp]
      tauto
    rwa [hS] at this

end Cert.ArgMax
-- ==== Proof.HostArgMax.lean ====
/-
  The host's arg-max along the rows of an `n × 32768` array (hand-written): at the extended reals its second result at row
  `r` is the first position at which row `r` is greatest. The host folds its reducer over the row's (value, position)
  pairs in some order; `ArgMax.Best.foldl` says what any such fold holds.
-/
module

public import proofs.«01_k».proof.Proof.ArgMax
public import Idealize.ShloMosaic.PureOps.Ideal.Laws
public import Idealize.ShloMosaic.Lib.Pointwise.Reduce

@[expose] public section

noncomputable section

open Idealize.ShloMosaic

namespace Cert.ArgMax

/-- Row `r` of an array, as a function of the position; nothing is there past the row's end. -/
def rowAt {n : ℕ} (x : (⟨2, ![n, 32768]⟩ : Shape).Idx → EReal) (r : Fin n) (k : ℕ) : EReal :=
  if h : k < 32768 then x (ix2 r ⟨k, h⟩) else ⊥

theorem rowAt_fin {n : ℕ} (x : (⟨2, ![n, 32768]⟩ : Shape).Idx → EReal) (r : Fin n) (k : Fin 32768) :
    rowAt x r k.val = x (ix2 r k) := by simp [rowAt]

/-- The value of a position's word. -/
theorem toNat_col (k : Fin 32768) : (BitVec.ofNat 32 k.val).toNat = k.val := by
  have := k.isLt
  simp only [BitVec.toNat_ofNat]; omega

/-- The arg-max of row `r`, by the host's fold from the least value and position zero. -/
theorem hostArgMax_first {n : ℕ} {u : Shape} (x : (⟨2, ![n, 32768]⟩ : Shape).Idx → EReal)
    (y : (⟨2, ![n, 32768]⟩ : Shape).Idx → BitVec 32) (hy : y = iotaInDim ⟨2, ![n, 32768]⟩ 32 1)
    (ix : u.Idx → EReal) (hix : ∀ i, ix i = ⊥) (iy : u.Idx → BitVec 32) (hiy : ∀ i, iy i = 0#32)
    (h : (⟨2, ![n, 32768]⟩ : Shape).ReducesTo [1] ⟨1, ![n]⟩) (hu : 0 < u.numel) (r : Fin n) :
    ∃ m, First (rowAt x r) {k | k < 32768} m
      (BitVec.toNat (w := 32) (Host.argReduce (F := Ideal) (φ := .f32) refStep x y ix iy h hu (ix1 r)).2) := by
  rw [Ideal.argReduce_eq_reduce2, Host.reduce2_eq_foldl_fiber, hix, hiy]
  have key := Best.foldl (f := rowAt x r) (Host.argReduceFiber x y h (ix1 r)) (by
    intro p hp
    obtain ⟨i, hi, rfl⟩ := List.mem_map.mp hp
    obtain ⟨k, hk⟩ := (h.fiber_r2_a1 (ix1 r) _).mp (of_decide_eq_true (List.mem_filter.mp hi).2)
    rw [← hk, hy]
    have e : (iotaInDim ⟨2, ![n, 32768]⟩ 32 1) (ix2 r k) = BitVec.ofNat 32 k.val := rfl
    have := k.isLt
    refine ⟨?_, ?_⟩
    · show BitVec.toNat (iotaInDim ⟨2, ![n, 32768]⟩ 32 1 (ix2 r k)) < _
      rw [e, toNat_col]; omega
    · show x (ix2 r k) = rowAt x r (BitVec.toNat (iotaInDim ⟨2, ![n, 32768]⟩ 32 1 (ix2 r k)))
      rw [e, toNat_col, rowAt_fin]) ∅ (⊥, 0#32) (Best.empty _) (by decide)
  have hS : (∅ : Set ℕ) ∪ {k | ∃ p ∈ Host.argReduceFiber x y h (ix1 r), k = p.2.toNat} = {k | k < 32768} := by
    ext k
    simp only [Set.empty_union, Set.mem_setOf_eq]
    constructor
    · rintro ⟨p, hp, rfl⟩
      obtain ⟨i, hi, rfl⟩ := List.mem_map.mp hp
      obtain ⟨k, hk⟩ := (h.fiber_r2_a1 (ix1 r) _).mp (of_decide_eq_true (List.mem_filter.mp hi).2)
      rw [← hk, hy]
      show BitVec.toNat (BitVec.ofNat 32 k.val) < _
      rw [toNat_col]; exact k.isLt
    · intro hk
      refine ⟨(x (ix2 r ⟨k, hk⟩), y (ix2 r ⟨k, hk⟩)), List.mem_map.mpr ⟨(⟨2, ![n, 32768]⟩ : Shape).rowMajor (ix2 r ⟨k, hk⟩),
        List.mem_filter.mpr ⟨List.mem_finRange _, ?_⟩, ?_⟩, ?_⟩
      · rw [Equiv.symm_apply_apply]
        exact decide_eq_true ((h.fiber_r2_a1 (ix1 r) _).mpr ⟨⟨k, hk⟩, rfl⟩)
      · rw [Equiv.symm_apply_apply]
      · rw [hy]; exact (toNat_col ⟨k, hk⟩).symm
  rw [hS] at key
  exact ⟨_, key.toFirst (by simp)⟩

end Cert.ArgMax

end
-- ==== Proof.RefRun.lean ====
/-
  The reference's run (hand-written): its five host operations one after another, and what its result holds. From any
  memory it ends with its argument unchanged, no counter above zero (it has none) and its result at `refVal` of the
  argument; `refVal_first` says that is the first position at which each row is greatest.
-/
module

public import proofs.«01_k».proof.Proof.HostArgMax
public import proofs.«01_k».proof.Proof.Gen.ReferenceIdeal
public import Idealize.ShloMosaic.Lib.StableHlo.Run
public import Idealize.ShloMosaic.Lib.Quiescent
public import Idealize.ShloMosaic.Lib.Tactic

@[expose] public section

noncomputable section

open Idealize.ShloMosaic Idealize.ShloMosaic.TcCoe Idealize.SL.Sem

namespace Cert.ReferenceIdeal.Value

open Cert.ReferenceIdeal Cert.ReferenceIdeal.Gen Idealize.ShloMosaic.StableHlo Cert.ArgMax

variable {F : FTy → Type} [FloatOps F]

/-- @main's operations, in order: the positions, the two starting values, and the two results of the arg-max. -/
abbrev ops : List (HloOp τ sig (Elt F)) :=
  [ nullary main_call0_v0 (iotaInDim S128x32768 32 1),
    nullary main_call0_cst (constant S_ .f32 0xFF800000#32),
    nullary main_call0_c (constantI S_ 32 0#32),
    quaternary main_arg0 main_call0_v0 main_call0_cst main_call0_c main_call0_v1_0
      (fun x y u v j => (Host.argReduce reducer_argmax_f32_i32 x y u v reducesTo_S128x32768_S128_d1 h_S_ j).1),
    quaternary main_arg0 main_call0_v0 main_call0_cst main_call0_c main_v0
      (fun x y u v j => (Host.argReduce reducer_argmax_f32_i32 x y u v reducesTo_S128x32768_S128_d1 h_S_ j).2) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., quaternary_bufs_sub .., quaternary_bufs_sub ..⟩

/-- The arg-max of every row of `x`, as the host computes it. -/
def refVal (x : S128x32768.Idx → F .f32) : S128.Idx → BitVec 32 := fun j =>
  (Host.argReduce reducer_argmax_f32_i32 x (iotaInDim S128x32768 32 1) (constant S_ .f32 0xFF800000#32) (constantI S_ 32 0#32)
    reducesTo_S128x32768_S128_d1 h_S_ j).2

/-- Every execution of @main ends, with the result at `refVal` of the argument, the argument unchanged and every counter
    at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_v0) = refVal (m ((c : Thread nD τ).loc main_arg0))
        ∧ r.2.mem ((c : Thread nD τ).loc main_arg0) = m ((c : Thread nD τ).loc main_arg0))
      ∧ r.2.sem = fun _ => 0 :=
  (θ_run defs _ _).mono (fun r h =>
    ⟨fun c => ⟨(h c main_v0).trans (by after_results; rfl), (h c main_arg0).trans (by after_results)⟩,
      sem_eq_zero_of_no_sems rfl _⟩)
    (run_seq scopedRefs_eq scopedSems_eq defs main (fun _ => ops) main_eq (fun _ => ops_sub) m ρ)

/-- The starting value is below every extended real. -/
theorem negInf : (Scalar.ofBits .f32 0xFF800000#32 : Ideal .f32) = (⊥ : EReal) := by
  show Ideal.ofBits .f32 0xFF800000#32 = ⊥
  simp [Ideal.ofBits, Ideal.ieee]

/-- The printed reducer is the step of `ArgMax`. -/
theorem reducer_eq : (reducer_argmax_f32_i32 : Ideal .f32 × BitVec 32 → Ideal .f32 × BitVec 32 → Ideal .f32 × BitVec 32) = refStep := by
  funext a b
  rfl

theorem refVal_eq (x : S128x32768.Idx → EReal) : refVal (F := Ideal) x = fun j =>
    (Host.argReduce (F := Ideal) (φ := .f32) refStep x (iotaInDim S128x32768 32 1) (constant (F := Ideal) S_ .f32 0xFF800000#32)
      (constantI S_ 32 0#32) reducesTo_S128x32768_S128_d1 h_S_ j).2 :=
  congrArg (fun f j => (Host.argReduce (F := Ideal) (φ := .f32) f x (iotaInDim S128x32768 32 1)
    (constant (F := Ideal) S_ .f32 0xFF800000#32) (constantI S_ 32 0#32) reducesTo_S128x32768_S128_d1 h_S_ j).2) reducer_eq

/-- The two starting values. -/
theorem start_value : ∀ i : S_.Idx, constant (F := Ideal) S_ .f32 0xFF800000#32 i = ⊥ := fun _ => negInf
theorem start_pos : ∀ i : S_.Idx, constantI S_ 32 0#32 i = 0#32 := fun _ => rfl

/-- The host's fold at row `r`, with its operands as variables. -/
theorem fold_first (x : S128x32768.Idx → EReal) (y : S128x32768.Idx → BitVec 32) (hy : y = iotaInDim S128x32768 32 1)
    (a : S_.Idx → EReal) (ha : ∀ i, a i = ⊥) (b : S_.Idx → BitVec 32) (hb : ∀ i, b i = 0#32) (r : Fin 128) :
    ∃ m, First (rowAt x r) {k | k < 32768} m (BitVec.toNat (w := 32)
      (Host.argReduce (F := Ideal) (φ := .f32) refStep x y a b reducesTo_S128x32768_S128_d1 h_S_ (ix1 r)).2) :=
  hostArgMax_first (n := 128) (u := S_) x y hy a ha b hb reducesTo_S128x32768_S128_d1 h_S_ r

/-- At the extended reals the reference's result at row `r` is the first position at which the row is greatest. -/
theorem refVal_first (x : S128x32768.Idx → EReal) (r : Fin 128) :
    ∃ m, First (rowAt x r) {k | k < 32768} m (BitVec.toNat (w := 32) (refVal (F := Ideal) x (ix1 r))) := by
  rw [refVal_eq]
  exact fold_first x _ rfl _ start_value _ start_pos r

end Cert.ReferenceIdeal.Value

end
-- ==== Proof.TcBlock.lean ====
/-
  What the TensorCore kernel's body leaves in its output block (hand-written): in every lane of row `r`, the first
  position at which row `r` of the input block is greatest.

  The loop over the columns keeps eight slots per lane (`Inv`: slot `u` of lane `l` is `ArgMax.Slot` over the columns
  `1024·j + 128·u + l`); one trip keeps the invariant (`inv_trip`), so the state after the loop holds it at 32 steps.
  Each slot is then a candidate over its own columns (`cand_slot`), the eight are merged in pairs, and the last two
  reductions take the row's maximum over the lanes and the least position that carries it (`tail_first`).
-/
module

public import proofs.«01_k».proof.Proof.ArgMax
public import proofs.«01_k».proof.Proof.Gen.KernelIdeal.Frame
public import Idealize.ShloMosaic.Lib.Pipeline.Value
public import Idealize.ShloMosaic.Lib.Pipeline.ValueKit.Tiles
public import Idealize.ShloMosaic.Lib.WordArith.Masks
public import Idealize.ShloMosaic.Lib.Tactic

@[expose] public section

set_option maxRecDepth 16384

noncomputable section

open Idealize.ShloMosaic Idealize.ShloMosaic.TcCoe Idealize.SL.Sem
open Cert.ArgMax

namespace Cert.KernelIdeal.Value

open Cert.KernelIdeal Cert.KernelIdeal.Gen

theorem hz : (![0, 0] : Fin 2 → Nat) = fun _ => 0 := funext fun a => by fin_cases a <;> rfl

/-- Row `r` of a block, by column number. -/
def rowOf (x : Vec Ideal S32x32768 .f32) (r : Fin 32) (k : ℕ) : EReal := if h : k < 32768 then x (ix2 r ⟨k, h⟩) else ⊥

/-- The column that slot `u` of lane `l` meets at step `j`. -/
def pos (u : ℕ) (l : Fin 128) (j : ℕ) : ℕ := 1024 * j + 128 * u + l.val

theorem pos_mono (u : ℕ) (l : Fin 128) : StrictMono (pos u l) := fun a b h => by unfold pos; omega

/-- What slot `u` of lane `l` reads at step `j`. -/
def seen (x : Vec Ideal S32x32768 .f32) (r : Fin 32) (u : ℕ) (l : Fin 128) (j : ℕ) : EReal := rowOf x r (pos u l j)

/-- The loop's state: eight maxima and eight steps, lane by lane. -/
abbrev St : Type :=
  FVec Ideal S32x128 .f32 × FVec Ideal S32x128 .f32 × FVec Ideal S32x128 .f32 × FVec Ideal S32x128 .f32 × FVec Ideal S32x128 .f32 × FVec Ideal S32x128 .f32 × FVec Ideal S32x128 .f32 × FVec Ideal S32x128 .f32
    × IVec S32x128 32 × IVec S32x128 32 × IVec S32x128 32 × IVec S32x128 32 × IVec S32x128 32 × IVec S32x128 32 × IVec S32x128 32 × IVec S32x128 32

/-- Slot `u` over the whole block: a maximum and a step in every lane of every row. -/
def SlotAt (x : Vec Ideal S32x32768 .f32) (u T : ℕ) (v : FVec Ideal S32x128 .f32) (s : IVec S32x128 32) : Prop :=
  ∀ (r : Fin 32) (l : Fin 128), Slot (seen x r u l) T (v (ix2 r l)) (s (ix2 r l))

/-- The loop's invariant before trip `T`. -/
structure Inv (x : Vec Ideal S32x32768 .f32) (T : ℕ) (q : St) : Prop where
  s0 : SlotAt x 0 T q.1 q.2.2.2.2.2.2.2.2.1
  s1 : SlotAt x 1 T q.2.1 q.2.2.2.2.2.2.2.2.2.1
  s2 : SlotAt x 2 T q.2.2.1 q.2.2.2.2.2.2.2.2.2.2.1
  s3 : SlotAt x 3 T q.2.2.2.1 q.2.2.2.2.2.2.2.2.2.2.2.1
  s4 : SlotAt x 4 T q.2.2.2.2.1 q.2.2.2.2.2.2.2.2.2.2.2.2.1
  s5 : SlotAt x 5 T q.2.2.2.2.2.1 q.2.2.2.2.2.2.2.2.2.2.2.2.2.1
  s6 : SlotAt x 6 T q.2.2.2.2.2.2.1 q.2.2.2.2.2.2.2.2.2.2.2.2.2.2.1
  s7 : SlotAt x 7 T q.2.2.2.2.2.2.2.1 q.2.2.2.2.2.2.2.2.2.2.2.2.2.2.2

/-- One slot's step over the block: the loaded columns against the maxima. -/
theorem SlotAt.succ {x : Vec Ideal S32x32768 .f32} {u T : ℕ} {v w : FVec Ideal S32x128 .f32} {s : IVec S32x128 32} {iv : BitVec 32}
    (h : SlotAt x u T v s) (hw : ∀ r l, w (ix2 r l) = seen x r u l T) (hiv : iv.toNat = T) :
    SlotAt x u (T + 1) (select (cmpf .ogt w v) w v) (select (cmpf .ogt w v) (broadcast S32x128 iv) s) :=
  fun r l => (h r l).succ (hw r l) hiv

theorem trips_eq : k0_t1_loop.trips = 32 := by decide +kernel

theorem iv_toNat (k : Fin k0_t1_loop.trips) : (Scf.iv 0#32 1#32 k).toNat = k.val :=
  WordArith.toNat_iv_zero_one _ (by have := k.isLt; have := trips_eq; omega)

/-- The load of slot `u` at trip `k`. -/
theorem load_seen (x : Vec Ideal S32x32768 .f32) (k : Fin k0_t1_loop.trips) (u : Fin 8)
    (inb : ∀ a, k0_off1 k (BitVec.ofNat 32 u.val) a + S32x128.size a ≤ S32x32768.size a) (r : Fin 32) (l : Fin 128) :
    View.ld x (Rect.unit (k0_off1 k (BitVec.ofNat 32 u.val)) S32x128.size inb) (ix2 r l) = seen x r u.val l k.val := by
  have hk : k.val < 32 := by have := k.isLt; have := trips_eq; omega
  have hu := u.isLt
  have hl := l.isLt
  have hp : pos u.val l k.val < 32768 := by unfold pos; omega
  unfold seen rowOf
  rw [dif_pos hp]
  refine View.ld_unit_apply_of _ _ _ _ _ _ fun a => ?_
  rw [congrFun (k0_off1_eq k u) a]
  match a with
  | ⟨0, _⟩ => show r.val = 0 + r.val; omega
  | ⟨1, _⟩ => rfl

/-- One trip keeps the invariant. -/
theorem inv_trip (𝒱 : Variants) (c : Dev nD) (bd : Option 𝒱.V) (i : grid0.Coords) (a1 : Memref sig .tc .vmem S32x32768 .f32)
    (h1 : a1.IsWhole) (a2 : Memref sig .tc .vmem S32x128 .i32) (h2 : a2.IsWhole) (x : Vec Ideal S32x32768 .f32)
    (k : Fin k0_t1_loop.trips) (q : St) (h : Inv x k.val q) :
    Inv x (k.val + 1) (tripR_k0_t1 𝒱 c bd i a1 h1 a2 h2 (h1.unread x) k q) := by
  unfold tripR_k0_t1 trip_k0_t1
  dsimp only
  sl_unfold_words
  simp only [View.readAt_eq_ld, h1.read_unread]
  exact ⟨h.s0.succ (load_seen x k 0 _) (iv_toNat k), h.s1.succ (load_seen x k 1 _) (iv_toNat k),
    h.s2.succ (load_seen x k 2 _) (iv_toNat k), h.s3.succ (load_seen x k 3 _) (iv_toNat k),
    h.s4.succ (load_seen x k 4 _) (iv_toNat k), h.s5.succ (load_seen x k 5 _) (iv_toNat k),
    h.s6.succ (load_seen x k 6 _) (iv_toNat k), h.s7.succ (load_seen x k 7 _) (iv_toNat k)⟩

theorem negInf : (Scalar.ofBits .f32 0xFF800000#32 : Ideal .f32) = (⊥ : EReal) := by
  show Ideal.ofBits .f32 0xFF800000#32 = ⊥
  simp [Ideal.ofBits, Ideal.ieee]

/-- The loop's initial value. -/
abbrev st₀ : St := (k0_pay16, k0_pay17, k0_pay18, k0_pay19, k0_pay20, k0_pay21, k0_pay22, k0_pay23, k0_pay24, k0_pay25, k0_pay26, k0_pay27,
  k0_pay28, k0_pay29, k0_pay30, k0_pay31)

theorem slotAt_zero (x : Vec Ideal S32x32768 .f32) (u : ℕ) (v : FVec Ideal S32x128 .f32) (s : IVec S32x128 32)
    (hv : v = broadcast S32x128 (Scalar.ofBits .f32 0xFF800000#32)) (hs : s = broadcast S32x128 0#32) : SlotAt x u 0 v s := fun r l => by
  subst hv hs
  show Slot _ 0 (Scalar.ofBits .f32 0xFF800000#32 : Ideal .f32) 0#32
  rw [negInf]
  exact Slot.zero _

theorem inv_zero (x : Vec Ideal S32x32768 .f32) : Inv x 0 st₀ :=
  ⟨slotAt_zero x _ _ _ rfl rfl, slotAt_zero x _ _ _ rfl rfl, slotAt_zero x _ _ _ rfl rfl, slotAt_zero x _ _ _ rfl rfl,
    slotAt_zero x _ _ _ rfl rfl, slotAt_zero x _ _ _ rfl rfl, slotAt_zero x _ _ _ rfl rfl, slotAt_zero x _ _ _ rfl rfl⟩

/-- The invariant before every trip, and after the last. -/
theorem inv_st (𝒱 : Variants) (c : Dev nD) (bd : Option 𝒱.V) (i : grid0.Coords) (a1 : Memref sig .tc .vmem S32x32768 .f32)
    (h1 : a1.IsWhole) (a2 : Memref sig .tc .vmem S32x128 .i32) (h2 : a2.IsWhole) (x : Vec Ideal S32x32768 .f32) :
    ∀ T, T ≤ k0_t1_loop.trips → Inv x T (st_k0_t1 𝒱 c bd i a1 h1 a2 h2 (h1.unread x) st₀ T)
  | 0, _ => by rw [st_k0_t1_zero]; exact inv_zero x
  | T + 1, hT => by
    rw [st_k0_t1_succ 𝒱 c bd i a1 h1 a2 h2 (h1.unread x) st₀ ⟨T, hT⟩]
    exact inv_trip 𝒱 c bd i a1 h1 a2 h2 x ⟨T, hT⟩ _ (inv_st 𝒱 c bd i a1 h1 a2 h2 x T (Nat.le_of_lt hT))

/-- The columns of slot `u` of lane `l`. -/
def cols (u : ℕ) (l : Fin 128) : Set ℕ := {k | ∃ j < 32, k = pos u l j}

/-- After the loop, a slot's maximum with its column number is a candidate over the slot's columns. -/
theorem cand_slot {x : Vec Ideal S32x32768 .f32} {u : ℕ} (hu : u < 8) {v : FVec Ideal S32x128 .f32} {s : IVec S32x128 32}
    (h : SlotAt x u 32 v s) (r : Fin 32) (l : Fin 128) :
    Cand (rowOf x r) (cols u l) (v (ix2 r l))
      (s (ix2 r l) * 1024#32 + (BitVec.ofNat 32 l.val + BitVec.ofNat 32 (128 * u))) := by
  have hs : (s (ix2 r l)).toNat < 32 := by
    rcases (h r l).met with e | ⟨-, e⟩
    · exact e.1
    · rw [e]; decide
  have hl := l.isLt
  have ha : (s (ix2 r l) * 1024#32 + (BitVec.ofNat 32 l.val + BitVec.ofNat 32 (128 * u))).toNat = pos u l (s (ix2 r l)).toNat := by
    unfold pos
    simp only [BitVec.toNat_add, BitVec.toNat_mul, BitVec.toNat_ofNat]
    omega
  refine ⟨(h r l).first (by decide) (fun j _ => rfl) (pos_mono u l) ha, ?_⟩
  rw [ha]; unfold pos; omega

/-- The candidate's index word, as each payload computes it from the slot's steps. -/
abbrev idxOf (s : IVec S32x128 32) (b : BitVec 32) : IVec S32x128 32 :=
  addi (muli s (broadcast S32x128 1024#32)) (addi (iota .tc S32x128 32 [1] iota_S32x128_d1_w32) (broadcast S32x128 b))

theorem idxOf_apply (s : IVec S32x128 32) (b : BitVec 32) (r : Fin 32) (l : Fin 128) :
    idxOf s b (ix2 r l) = s (ix2 r l) * 1024#32 + (BitVec.ofNat 32 l.val + b) := by
  show IntOp.addi (IntOp.muli _ _) (IntOp.addi (iota .tc S32x128 32 [1] iota_S32x128_d1_w32 (ix2 r l)) _) = _
  rw [show iota .tc S32x128 32 [1] iota_S32x128_d1_w32 (ix2 r l) = BitVec.ofNat 32 l.val from by pointwise]
  rfl

/-- A vector of values and a vector of words are candidates, lane by lane. -/
def CandAt (x : Vec Ideal S32x32768 .f32) (S : Fin 128 → Set ℕ) (v : FVec Ideal S32x128 .f32) (a : IVec S32x128 32) : Prop :=
  ∀ (r : Fin 32) (l : Fin 128), Cand (rowOf x r) (S l) (v (ix2 r l)) (a (ix2 r l))

theorem SlotAt.cand {x : Vec Ideal S32x32768 .f32} {u : ℕ} (hu : u < 8) {v : FVec Ideal S32x128 .f32} {s : IVec S32x128 32}
    (h : SlotAt x u 32 v s) : CandAt x (cols u) v (idxOf s (BitVec.ofNat 32 (128 * u))) := fun r l => by
  rw [idxOf_apply]; exact cand_slot hu h r l

/-- Which of two candidates wins, lane by lane. -/
abbrev win2 (v w : FVec Ideal S32x128 .f32) (a b : IVec S32x128 32) : IVec S32x128 1 :=
  ori (cmpf .ogt v w) (andi (cmpf .oeq v w) (cmpi .slt a b))

theorem CandAt.merge {x : Vec Ideal S32x32768 .f32} {S T : Fin 128 → Set ℕ} {v w : FVec Ideal S32x128 .f32} {a b : IVec S32x128 32}
    (h : CandAt x S v a) (h' : CandAt x T w b) :
    CandAt x (fun l => S l ∪ T l) (select (win2 v w a b) v w) (select (win2 v w a b) a b) := fun r l => (h r l).merge (h' r l)

/-- The last two reductions of a block: per row the maximum over the lanes, then the least of the lanes' positions that
    carry it, in every lane. -/
abbrev tail (v : FVec Ideal S32x128 .f32) (a : IVec S32x128 32) : IVec S32x128 32 :=
  broadcastTo S32x128 (shapeCast S32x1 (shapeCast S32x1 (multiReductionI .minsi [1] S32
    (select (cmpf .oeq v (broadcastTo S32x128 (shapeCast S32x1 (multiReduction .maximumf [1] S32 v 0xFF800000#32 reduces_S32x128_S32 (.inl rfl) rfl)
      shapeCasts_S32_S32x1) broadcasts_S32x1_S32x128)) a (broadcast S32x128 32768#32))
    2147483647#32 reduces_S32x128_S32 rfl) shapeCasts_S32_S32x1) shapeCasts_S32x1_S32x1) broadcasts_S32x1_S32x128

theorem tail_apply (v : FVec Ideal S32x128 .f32) (a : IVec S32x128 32) (r : Fin 32) (l : Fin 128) :
    tail v a (ix2 r l) = Finset.univ.fold IntOp.minsi 2147483647#32 (fun k : Fin 128 =>
      Scalar.select (FloatOps.cmpf (F := Ideal) (φ := .f32) .oeq (v (ix2 r k)) (Finset.univ.fold max (⊥ : EReal) (fun k : Fin 128 => v (ix2 r k))))
        (a (ix2 r k)) 32768#32) := by
  pointwise
  rw [show Ideal.ofBits .f32 4286578688#32 = (⊥ : EReal) from negInf]

/-- The columns of all the slots and lanes are all the columns. -/
theorem cols_all {k : ℕ} (hk : k < 32768) :
    ∃ l : Fin 128, k ∈ ((cols 0 l ∪ cols 1 l) ∪ (cols 2 l ∪ cols 3 l)) ∪ ((cols 4 l ∪ cols 5 l) ∪ (cols 6 l ∪ cols 7 l)) := by
  refine ⟨⟨k % 128, Nat.mod_lt _ (by decide)⟩, ?_⟩
  have h8 : k / 128 % 8 = 0 ∨ k / 128 % 8 = 1 ∨ k / 128 % 8 = 2 ∨ k / 128 % 8 = 3 ∨ k / 128 % 8 = 4 ∨ k / 128 % 8 = 5
      ∨ k / 128 % 8 = 6 ∨ k / 128 % 8 = 7 := by omega
  have hm : ∀ u, k / 128 % 8 = u → k ∈ cols u ⟨k % 128, Nat.mod_lt _ (by decide)⟩ := fun u hu =>
    ⟨k / 1024, by omega, by unfold pos; dsimp only; omega⟩
  rcases h8 with h | h | h | h | h | h | h | h
  · exact Or.inl (Or.inl (Or.inl (hm _ h)))
  · exact Or.inl (Or.inl (Or.inr (hm _ h)))
  · exact Or.inl (Or.inr (Or.inl (hm _ h)))
  · exact Or.inl (Or.inr (Or.inr (hm _ h)))
  · exact Or.inr (Or.inl (Or.inl (hm _ h)))
  · exact Or.inr (Or.inl (Or.inr (hm _ h)))
  · exact Or.inr (Or.inr (Or.inl (hm _ h)))
  · exact Or.inr (Or.inr (Or.inr (hm _ h)))

theorem cols_lt {u : ℕ} (hu : u < 8) {l : Fin 128} {k : ℕ} (h : k ∈ cols u l) : k < 32768 := by
  obtain ⟨j, hj, rfl⟩ := h
  have := l.isLt
  unfold pos; omega

theorem cols_all_lt {l : Fin 128} {k : ℕ}
    (h : k ∈ ((cols 0 l ∪ cols 1 l) ∪ (cols 2 l ∪ cols 3 l)) ∪ ((cols 4 l ∪ cols 5 l) ∪ (cols 6 l ∪ cols 7 l))) : k < 32768 := by
  rcases h with ((h | h) | (h | h)) | ((h | h) | (h | h)) <;> exact cols_lt (by decide) h

/-- The last reductions of candidates over all the columns give the row's first greatest column. -/
theorem tail_first {x : Vec Ideal S32x32768 .f32} {v : FVec Ideal S32x128 .f32} {a : IVec S32x128 32}
    (h : CandAt x (fun l => ((cols 0 l ∪ cols 1 l) ∪ (cols 2 l ∪ cols 3 l)) ∪ ((cols 4 l ∪ cols 5 l) ∪ (cols 6 l ∪ cols 7 l))) v a)
    (r : Fin 32) (l : Fin 128) : ∃ m, First (rowOf x r) {k | k < 32768} m (tail v a (ix2 r l)).toNat := by
  have e : {k | k < 32768} = {k | ∃ l : Fin 128, k ∈ ((cols 0 l ∪ cols 1 l) ∪ (cols 2 l ∪ cols 3 l)) ∪ ((cols 4 l ∪ cols 5 l) ∪ (cols 6 l ∪ cols 7 l))} :=
    Set.ext fun k => ⟨cols_all, fun ⟨_, hl⟩ => cols_all_lt hl⟩
  rw [tail_apply, e]
  exact ⟨_, First.fold_lanes _ _ (by decide) (by decide) (by decide) (fun k => (h r k).1) (fun k => cols_all_lt (h r k).1.mem) rfl⟩

/-- THE BLOCK: what the body leaves in lane `l` of row `r` is the first column at which row `r` of the input block is
    greatest. -/
theorem out_first (c : Dev nD) (i : grid0.Coords) (a1 : Memref sig .tc .vmem S32x32768 .f32) (h1 : a1.IsWhole)
    (a2 : Memref sig .tc .vmem S32x128 .i32) (h2 : a2.IsWhole) (x : Vec Ideal S32x32768 .f32) (r : Fin 32) (l : Fin 128) :
    ∃ m, First (rowOf x r) {k | k < 32768} m (BitVec.toNat (w := 32) (out0_A_1 c i a1 h1 a2 h2 x (ix2 r l))) := by
  have h := inv_st Variants.none c none i a1 h1 a2 h2 x 32 (by rw [trips_eq])
  have ht : Scf.trips k0_t1_loop.lb k0_t1_loop.ub k0_t1_loop.st = 32 := trips_eq
  unfold out0_A_1
  rw [View.read_writes_eq_canon _ _ _ (cover0_A_1 c i a1 h1 a2 h2 x)]
  unfold kernelRun0_A
  dsimp only
  sl_unfold_words
  rw [View.canon_unit_zero hz, ht]
  exact tail_first ((((h.s0.cand (by decide)).merge (h.s1.cand (by decide))).merge ((h.s2.cand (by decide)).merge (h.s3.cand (by decide)))).merge
    (((h.s4.cand (by decide)).merge (h.s5.cand (by decide))).merge ((h.s6.cand (by decide)).merge (h.s7.cand (by decide))))) r l

end Cert.KernelIdeal.Value
-- ==== Proof.TcRun.lean ====
/-
  The TensorCore kernel's run, read (hand-written): its result array, row by row, is the first position at which the
  argument's row is greatest. The output window's four blocks tile the array (`cover`), each is what the body leaves over
  its block of rows (`TcBlock.out_first`), and the two host operations after the region take column 0 as a vector.
-/
module

public import proofs.«01_k».proof.Proof.HostArgMax
public import proofs.«01_k».proof.Proof.TcBlock
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open Cert.ArgMax

namespace Cert.KernelIdeal.Value

open Cert.KernelIdeal Cert.KernelIdeal.Gen

variable (m : (ℓ : Loc nD τ sig) → Buf (Elt Ideal) ℓ) (ρ : Dev nD → PrngReg)

/-- The argument on device `c`. -/
abbrev inp (c : Dev nD) : S128x32768.Idx → EReal := m ((c : Thread nD τ).loc main_arg0)

theorem index_in (t : Fin cfg0.N) : win0_0.index t 0 = t.val ∧ win0_0.index t 1 = 0 := by
  rcases fin_N0 t with rfl | rfl | rfl | rfl <;> decide

theorem index_out (t : Fin cfg0.N) : win0_1.index t 0 = t.val ∧ win0_1.index t 1 = 0 := by
  rcases fin_N0 t with rfl | rfl | rfl | rfl <;> decide

theorem t_lt (t : Fin cfg0.N) : t.val < 4 := by
  rcases fin_N0 t with rfl | rfl | rfl | rfl <;> decide

/-- The row of the argument that row `r` of point `t`'s block is. -/
def row (t : Fin cfg0.N) (r : Fin 32) : Fin 128 := ⟨32 * t.val + r.val, by have := t_lt t; have := r.isLt; omega⟩

/-- The input block at point `t` is the argument's rows from `32·t` on. -/
theorem rowOf_iblk (c : Dev nD) (t : Fin cfg0.N) (r : Fin 32) : rowOf (iblk m c 0 t) r = rowAt (inp m c) (row t r) := by
  have hi := index_in t
  funext k
  unfold rowOf rowAt
  split
  · rename_i hk
    unfold iblk
    rw [View.read_apply]
    show V m c main_arg0 _ = m (c.tc.loc main_arg0) _
    unfold V
    congr 1
    funext a
    apply Fin.ext
    match a with
    | ⟨0, _⟩ => show win0_0.index t 0 * 32 + 1 * r.val = 32 * t.val + r.val; rw [hi.1]; omega
    | ⟨1, _⟩ => show win0_0.index t 1 * 32768 + 1 * k = k; rw [hi.2]; omega
  · rfl

variable (G : Dev nD → S128.Idx → BitVec 32)
  (hG : ∀ c r, ∃ v, First (rowAt (inp m c) r) {k | k < 32768} v (BitVec.toNat (w := 32) (G c (ix1 r))))

/-- The result array: row `r` holds `G` at `r` in every lane. -/
def outArr (c : Dev nD) : Buf (Elt Ideal) ((c : Thread nD τ).loc main_v0) := fun i : S128x128.Idx => G c (ix1 (i 0))

include hG in
/-- What the body leaves at point `t` is the result array's block there. -/
theorem flushed_eq (c : Dev nD) (t : Fin cfg0.N) (_ : (cfg0.win 1).flush t = true) :
    (dats m 0 c).flushed 1 t = ((cfg0.win 1).blk t).view.read (Elt Ideal) (outArr G c) := by
  show (cfg0.win 1).cut (grid0.coords t) ((dats m 0 c).after 1 t) = _
  rw [after0_1]
  have hi := index_out t
  have key : ∀ (r : Fin 32) (l : Fin 128), outsAt0 m c t (ix2 r l) = G c (ix1 (row t r)) := by
    intro r l
    obtain ⟨v, hv⟩ := out_first c (grid0.coords t) (ms0_0 t) (hs0_0 t) (ms0_1 t) (hs0_1 t) (iblk m c 0 t) r l
    rw [rowOf_iblk] at hv
    obtain ⟨w, hw⟩ := hG c (row t r)
    exact BitVec.eq_of_toNat_eq (hv.unique hw)
  funext (j : S32x128.Idx)
  have hj : j = ix2 (j 0 : Fin 32) (j 1 : Fin 128) := by funext a; match a with | ⟨0, _⟩ => rfl | ⟨1, _⟩ => rfl
  rw [View.read_apply]
  refine Eq.trans (congrArg (outsAt0 m c t) hj) ((key (j 0) (j 1)).trans (congrArg (fun r => G c (ix1 r)) (Fin.ext ?_)))
  show 32 * t.val + (j 0).val = win0_1.index t 0 * 32 + 1 * (j 0).val
  rw [hi.1]; omega

/-- The output blocks cover the result array. -/
theorem cover (i : S128x128.Idx) : ∃ t : Fin cfg0.N, (cfg0.win 1).flush t = true ∧ i ∈ ((cfg0.win 1).blk t).view.set := by
  have h0 : (i 0 : Nat) < 128 := (i 0).isLt
  have h1 : (i 1 : Nat) < 128 := (i 1).isLt
  refine ⟨⟨(i 0).val / 32, by rw [show cfg0.N = 4 from N_0]; omega⟩, flush0_1 _, ?_⟩
  generalize ht : (⟨(i 0).val / 32, _⟩ : Fin cfg0.N) = t
  have htv : t.val = (i 0).val / 32 := by rw [← ht]
  have hi := index_out t
  show i ∈ ((View.whole main_v0).slice (win0_1.rect t)).set
  rw [View.set_slice_whole, Rect.mem_set_unit]
  have hx : win0_1.xsize (grid0.coords t) 0 = 32 ∧ win0_1.xsize (grid0.coords t) 1 = 128 := by
    clear ht htv hi
    rcases fin_N0 t with rfl | rfl | rfl | rfl <;> decide +kernel
  intro a
  match a with
  | ⟨0, _⟩ => show win0_1.index t 0 * 32 ≤ (i 0 : Nat) ∧ (i 0 : Nat) < win0_1.index t 0 * 32 + win0_1.xsize (grid0.coords t) 0
              rw [hi.1, hx.1]; omega
  | ⟨1, _⟩ => show win0_1.index t 1 * 128 ≤ (i 1 : Nat) ∧ (i 1 : Nat) < win0_1.index t 1 * 128 + win0_1.xsize (grid0.coords t) 1
              rw [hi.2, hx.2]; omega

include hG in
/-- The region's result. -/
theorem final_v0 (c : Dev nD) : (dats m 0 c).arrAt 1 cfg0.N = outArr G c :=
  (dats m 0 c).arrAt_eq_of_cover 1 (outArr G c) (flushed_eq m G hG c) cover

/-- Column 0 of the result array, as a vector. -/
theorem tail_eq (c : Dev nD) : shapeCast S128 (extractStridedSlice S128x1 ![0, 0] (outArr G c : S128x128.Idx → BitVec 32) slices_S128x128_S128x1_0_0)
    shapeCasts_S128x1_S128 = G c := by
  funext j
  unfold shapeCast
  rw [Shape.reshapeEquiv_eq_of_rowMajor shapeCasts_S128x1_S128 (y := ix2 (j 0 : Fin 128) (0 : Fin 1))
    (by rw [Shape.rowMajor_val_two, Shape.rowMajor_val_one]; show (j 0).val * 1 + 0 = (j 0).val; omega)]
  unfold extractStridedSlice outArr
  have e : j = ix1 (j 0 : Fin 128) := by funext a; match a with | ⟨0, _⟩ => rfl
  exact (congrArg (fun r => G c (ix1 r)) (Fin.ext (by show 0 + (j 0).val = (j 0).val; omega))).trans (congrArg (G c) e).symm

include hG in
/-- The run, read: the result at `G`, the argument unchanged. -/
theorem run : θ_run defs (onTc (τ := τ) (main (F := Ideal))) ⟨m, fun _ => 0, ρ⟩ fun r => ∀ c : Dev nD,
      r.2.mem ((c : Thread nD τ).loc main_v2) = G c
      ∧ r.2.mem ((c : Thread nD τ).loc main_arg0) = m ((c : Thread nD τ).loc main_arg0) :=
  (θ_run defs _ _).mono (fun _ h c => ⟨((h c).2 main_v2 (by decide)).trans (by
      unfold Pipeline.afterTail₀
      show StableHlo.after hostOps1 _ _ = _
      after_results
      erw [Pipeline.withArrays_arr spec0 launch0.win.arr_inj c (V0 m c) (fun w => (dats m 0 c).arrAt w cfg0.N) 1]
      rw [final_v0 m G hG c]
      exact tail_eq G c), ((h c).1 0).trans ((dats m 0 c).arrAt_in 0 rfl _)⟩)
    (run_main m ρ)

end Cert.KernelIdeal.Value

end
-- ==== Proof.ScSpec.lean ====
/-
  What one SparseCore tile computes from its row (hand-written), as plain functions of the row, over any instance of the
  floats: the eight running maxima per lane with the steps at which they last grew (`slotV`, `slotI`), the loop's carried
  value (`carry`), and the row of the output (`tileOut`).
-/
module

public import proofs.«01_k».proof.Defs
public import Idealize.ShloMosaic.Lib.Tactic
public import Idealize.ShloMosaic.Lib.Pipeline.Value
public import Idealize.ShloMosaic.Lib.WordArith.Masks
public import proofs.«01_k».proof.Proof.Gen.ScKernelIdeal
public import proofs.«01_k».proof.Proof.Gen.ScKernelIdeal.Skeleton

@[expose] public section

noncomputable section

namespace Cert.ScKernelIdeal.Tile

open Cert.ScKernelIdeal Cert.ScKernelIdeal.Gen
open Idealize.ShloMosaic Idealize.SL.Sem

variable {F : FTy → Type} [FloatOps F]

/-- A maximum after one more value: the value where it is the greater. -/
def stepV (x v : FVec F S16 .f32) : FVec F S16 .f32 := select (cmpf .ogt x v) x v

/-- The step of the maximum after one more value: this step `t` where the value is the greater. -/
def stepI (x v : FVec F S16 .f32) (t s : IVec S16 32) : IVec S16 32 := select (cmpf .ogt x v) t s

/-- The maxima, lane by lane, after `T` of the values `g`. -/
def slotV (g : ℕ → FVec F S16 .f32) : ℕ → FVec F S16 .f32
  | 0 => broadcast S16 (Scalar.ofBits .f32 0xFF800000#32)
  | T + 1 => stepV (g T) (slotV g T)

/-- The steps at which they last grew. -/
def slotI (g : ℕ → FVec F S16 .f32) : ℕ → IVec S16 32
  | 0 => broadcast S16 0#32
  | T + 1 => stepI (g T) (slotV g T) (broadcast S16 (BitVec.ofNat 32 T)) (slotI g T)

/-- What slot `u` reads of the row `w` at step `T`: sixteen columns. -/
def seen (w : ℕ → F .f32) (u T : ℕ) : FVec F S16 .f32 := fun j => w (128 * T + 16 * u + (j 0).val)

/-- The value the column loops carry. -/
abbrev St (F : FTy → Type) : Type :=
  FVec F S16 .f32 × FVec F S16 .f32 × FVec F S16 .f32 × FVec F S16 .f32 × FVec F S16 .f32 × FVec F S16 .f32 × FVec F S16 .f32 × FVec F S16 .f32
    × IVec S16 32 × IVec S16 32 × IVec S16 32 × IVec S16 32 × IVec S16 32 × IVec S16 32 × IVec S16 32 × IVec S16 32

/-- The carried value after `T` steps over the row `w`. -/
def carry (w : ℕ → F .f32) (T : ℕ) : St F :=
  (slotV (seen w 0) T, slotV (seen w 1) T, slotV (seen w 2) T, slotV (seen w 3) T, slotV (seen w 4) T, slotV (seen w 5) T,
    slotV (seen w 6) T, slotV (seen w 7) T, slotI (seen w 0) T, slotI (seen w 1) T, slotI (seen w 2) T, slotI (seen w 3) T,
    slotI (seen w 4) T, slotI (seen w 5) T, slotI (seen w 6) T, slotI (seen w 7) T)

/-- The lane `j` of a sixteen-lane vector. -/
def lane (j : ℕ) : S16.Idx := fun a => match a with | 0 => ⟨j % 16, Nat.mod_lt _ (by decide)⟩

/-- The vector whose lane `j` is lane `j xor k`. -/
def xl {α : Type} (k : ℕ) (f : S16.Idx → α) : S16.Idx → α := fun j => f (lane ((j 0).val ^^^ k))

/-- The number of each lane. -/
def lanes : IVec S16 32 := iota .scVector S16 32 [0] iota_S16_d0_w32_scVector

/-- The column of a slot's maximum, from the step `s` at which it last grew. -/
def column (u : BitVec 32) (s : IVec S16 32) : IVec S16 32 :=
  addi (muli (addi (muli s (broadcast S16 8#32)) (broadcast S16 u)) (broadcast S16 16#32)) lanes

/-- Where the first of two candidates is the better: greater, or equal at an earlier column. -/
def wins (v v' : FVec F S16 .f32) (p p' : IVec S16 32) : IVec S16 1 :=
  ori (cmpf .ogt v v') (andi (cmpf .oeq v v') (cmpi .slt p p'))

def bestV (v v' : FVec F S16 .f32) (p p' : IVec S16 32) : FVec F S16 .f32 := select (wins v v' p p') v v'
def bestI (v v' : FVec F S16 .f32) (p p' : IVec S16 32) : IVec S16 32 := select (wins v v' p p') p p'

/-- The exchange among lanes: after rounds at distances 1, 2, 4 and 8 every lane has met all sixteen. -/
def meet {α : Type} (op : (S16.Idx → α) → (S16.Idx → α) → S16.Idx → α) (k : ℕ) (x : S16.Idx → α) : S16.Idx → α := op x (xl k x)
def meetAll {α : Type} (op : (S16.Idx → α) → (S16.Idx → α) → S16.Idx → α) (x : S16.Idx → α) : S16.Idx → α :=
  meet op 8 (meet op 4 (meet op 2 (meet op 1 x)))

/-- The lanes whose maximum is the row's name their column, the others one past the row. -/
def named (v : FVec F S16 .f32) (p : IVec S16 32) : IVec S16 32 :=
  select (cmpf .oeq v (meetAll maximumf v)) p (broadcast S16 32768#32)

/-- What a tile stores: the least named column in lane `0`. -/
def stored (p : IVec S16 32) : IVec S16 32 := select (cmpi .eq lanes (broadcast S16 0#32)) (meetAll minsi p) (broadcast S16 0#32)

/-- The maxima of slots `u` and `u + 1` merged, then of four, then of eight. -/
def pairV (w : ℕ → F .f32) (u : ℕ) : FVec F S16 .f32 :=
  bestV (slotV (seen w u) 256) (slotV (seen w (u + 1)) 256) (column (BitVec.ofNat 32 u) (slotI (seen w u) 256))
    (column (BitVec.ofNat 32 (u + 1)) (slotI (seen w (u + 1)) 256))
def pairI (w : ℕ → F .f32) (u : ℕ) : IVec S16 32 :=
  bestI (slotV (seen w u) 256) (slotV (seen w (u + 1)) 256) (column (BitVec.ofNat 32 u) (slotI (seen w u) 256))
    (column (BitVec.ofNat 32 (u + 1)) (slotI (seen w (u + 1)) 256))
def quadV (w : ℕ → F .f32) (u : ℕ) : FVec F S16 .f32 := bestV (pairV w u) (pairV w (u + 2)) (pairI w u) (pairI w (u + 2))
def quadI (w : ℕ → F .f32) (u : ℕ) : IVec S16 32 := bestI (pairV w u) (pairV w (u + 2)) (pairI w u) (pairI w (u + 2))
def lastV (w : ℕ → F .f32) : FVec F S16 .f32 := bestV (quadV w 0) (quadV w 4) (quadI w 0) (quadI w 4)
def lastI (w : ℕ → F .f32) : IVec S16 32 := bestI (quadV w 0) (quadV w 4) (quadI w 0) (quadI w 4)

/-- The row of the output a tile writes for the row `w`. -/
def tileOut (w : ℕ → F .f32) : IVec S16 32 := stored (named (lastV w) (lastI w))

end Cert.ScKernelIdeal.Tile

end
-- ==== Proof.ScBase.lean ====
/-
  The SparseCore call's resources (hand-written): the program as the launch theorem sees it, the kernel's memrefs as the
  body table passes them, and the two rows of a tile's staging buffer as the kernel slices them.
-/
module

public import proofs.«01_k».proof.Proof.ScSpec
public import Idealize.ShloMosaic.Lib.SparseCore.Quiescent
public import Idealize.ShloMosaic.Lib.SparseCore.Ops
public import Idealize.ShloMosaic.Lib.StableHlo.Run
public import Idealize.ShloMosaic.Lib.Pipeline.Kit

@[expose] public section

noncomputable section

namespace Cert.ScKernelIdeal.Tile

open Cert.ScKernelIdeal Cert.ScKernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays and the memrefs -/

abbrev xLoc (d : Dev nD) : Loc nD τ sig := (SparseCore.T d).loc main_arg0
abbrev oLoc (d : Dev nD) : Loc nD τ sig := (SparseCore.T d).loc main_v0

/-- `x`, the output, the two staging rows, the output row's staging, and the two lane scratches. -/
abbrev xV : Memref sig .scVector .hbm S128x32768 .f32 := Memref.whole main_arg0_scv
abbrev oV : Memref sig .scVector .hbm S32x16 .i32 := Memref.whole main_v0_scv
abbrev bV : Memref sig .scVector .vmem S2x8192 .f32 := Memref.whole cc0_scratch0
abbrev rV : Memref sig .scVector .vmem S16 .i32 := Memref.whole cc0_scratch1
abbrev fV : Memref sig .scVector .vmem S16 .f32 := Memref.whole cc0_scratch4
abbrev iV : Memref sig .scVector .vmem S16 .i32 := Memref.whole cc0_scratch5

/-- A tile's SparseCore and its subcore. -/
abbrev cV (L : grid0.Coords) : Fin τ.nSC := (L 0).castLE hcore0
abbrev jV (L : grid0.Coords) : Fin τ.nSub := (L 1).castLE hsub0
/-- A tile's thread. -/
abbrev thr (d : Dev nD) (L : grid0.Coords) : Thread nD τ := V d (cV L) (jV L)

/-- The two rows of the staging buffer, as the kernel slices them. -/
abbrev b0 : Memref sig .scVector .vmem S8192 .f32 :=
  (bV.slice (Rect.unit (s := S2x8192) ![0, 0] S1x8192.size inb_S2x8192_S1x8192_0_0) (fun _ => rfl)).squeeze S8192 squeezes_S1x8192_S8192
abbrev b1 : Memref sig .scVector .vmem S8192 .f32 :=
  (bV.slice (Rect.unit (s := S2x8192) ![1, 0] S1x8192.size inb_S2x8192_S1x8192_1_0) (fun _ => rfl)).squeeze S8192 squeezes_S1x8192_S8192

end Cert.ScKernelIdeal.Tile

end
-- ==== Proof.ScTrip.lean ====
/-
  One trip of each of the four column loops (hand-written): sixteen carried vectors at `T` steps over the row `w` become
  them at `T + 1`, the staging row being unchanged.
-/
module

public import proofs.«01_k».proof.Proof.ScBase

@[expose] public section

noncomputable section

namespace Cert.ScKernelIdeal.Tile

open Cert.ScKernelIdeal Cert.ScKernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The window of sixteen columns from `o` of the chunk whose first column is `base`. -/
def win (w : ℕ → F .f32) (base : ℕ) (o : Fin 1 → ℕ) : FVec F S16 .f32 := fun j => w (base + (o 0 + (j 0).val))

theorem win_seen (w : ℕ → F .f32) {base : ℕ} {o : Fin 1 → ℕ} {t u T : ℕ} (ho : o = ![128 * t + 16 * u]) (hT : base + 128 * t = 128 * T) :
    win w base o = seen w u T := by
  subst ho
  funext j
  refine congrArg w ?_
  show base + (128 * t + 16 * u + (j 0).val) = 128 * T + 16 * u + (j 0).val
  omega

/-- One more value in a slot, as the kernel spells it. -/
theorem stepV_slot {g : ℕ → FVec F S16 .f32} {T : ℕ} {x : Vec F S16 .f32} (hx : x = g T) :
    select (cmpf .ogt (shapeCast S16 x shapeCasts_S16_S16) (slotV g T)) (shapeCast S16 x shapeCasts_S16_S16) (slotV g T) = slotV g (T + 1) := by
  subst hx
  rw [Idealize.ShloMosaic.shapeCast_self]
  rfl

theorem stepI_slot {g : ℕ → FVec F S16 .f32} {T : ℕ} {x : Vec F S16 .f32} {t : IVec S16 32} (hx : x = g T)
    (ht : t = broadcast S16 (BitVec.ofNat 32 T)) :
    select (cmpf .ogt (shapeCast S16 x shapeCasts_S16_S16) (slotV g T)) t (slotI g T) = slotI g (T + 1) := by
  subst hx ht
  rw [Idealize.ShloMosaic.shapeCast_self]
  rfl

/-- The eight slots' step, as the kernel's loop carries them. -/
theorem carry_step (w : ℕ → F .f32) {T : ℕ} {x0 x1 x2 x3 x4 x5 x6 x7 : Vec F S16 .f32} {t : IVec S16 32}
    (h0 : x0 = seen w 0 T) (h1 : x1 = seen w 1 T) (h2 : x2 = seen w 2 T) (h3 : x3 = seen w 3 T) (h4 : x4 = seen w 4 T) (h5 : x5 = seen w 5 T) (h6 : x6 = seen w 6 T) (h7 : x7 = seen w 7 T)
    (ht : t = broadcast S16 (BitVec.ofNat 32 T)) :
    ((select (cmpf .ogt (shapeCast S16 x0 shapeCasts_S16_S16) (slotV (seen w 0) T)) (shapeCast S16 x0 shapeCasts_S16_S16) (slotV (seen w 0) T),
      select (cmpf .ogt (shapeCast S16 x1 shapeCasts_S16_S16) (slotV (seen w 1) T)) (shapeCast S16 x1 shapeCasts_S16_S16) (slotV (seen w 1) T),
      select (cmpf .ogt (shapeCast S16 x2 shapeCasts_S16_S16) (slotV (seen w 2) T)) (shapeCast S16 x2 shapeCasts_S16_S16) (slotV (seen w 2) T),
      select (cmpf .ogt (shapeCast S16 x3 shapeCasts_S16_S16) (slotV (seen w 3) T)) (shapeCast S16 x3 shapeCasts_S16_S16) (slotV (seen w 3) T),
      select (cmpf .ogt (shapeCast S16 x4 shapeCasts_S16_S16) (slotV (seen w 4) T)) (shapeCast S16 x4 shapeCasts_S16_S16) (slotV (seen w 4) T),
      select (cmpf .ogt (shapeCast S16 x5 shapeCasts_S16_S16) (slotV (seen w 5) T)) (shapeCast S16 x5 shapeCasts_S16_S16) (slotV (seen w 5) T),
      select (cmpf .ogt (shapeCast S16 x6 shapeCasts_S16_S16) (slotV (seen w 6) T)) (shapeCast S16 x6 shapeCasts_S16_S16) (slotV (seen w 6) T),
      select (cmpf .ogt (shapeCast S16 x7 shapeCasts_S16_S16) (slotV (seen w 7) T)) (shapeCast S16 x7 shapeCasts_S16_S16) (slotV (seen w 7) T),
      select (cmpf .ogt (shapeCast S16 x0 shapeCasts_S16_S16) (slotV (seen w 0) T)) t (slotI (seen w 0) T),
      select (cmpf .ogt (shapeCast S16 x1 shapeCasts_S16_S16) (slotV (seen w 1) T)) t (slotI (seen w 1) T),
      select (cmpf .ogt (shapeCast S16 x2 shapeCasts_S16_S16) (slotV (seen w 2) T)) t (slotI (seen w 2) T),
      select (cmpf .ogt (shapeCast S16 x3 shapeCasts_S16_S16) (slotV (seen w 3) T)) t (slotI (seen w 3) T),
      select (cmpf .ogt (shapeCast S16 x4 shapeCasts_S16_S16) (slotV (seen w 4) T)) t (slotI (seen w 4) T),
      select (cmpf .ogt (shapeCast S16 x5 shapeCasts_S16_S16) (slotV (seen w 5) T)) t (slotI (seen w 5) T),
      select (cmpf .ogt (shapeCast S16 x6 shapeCasts_S16_S16) (slotV (seen w 6) T)) t (slotI (seen w 6) T),
      select (cmpf .ogt (shapeCast S16 x7 shapeCasts_S16_S16) (slotV (seen w 7) T)) t (slotI (seen w 7) T)) : St F) = carry w (T + 1) :=
  congrArg₂ Prod.mk (stepV_slot h0) (congrArg₂ Prod.mk (stepV_slot h1) (congrArg₂ Prod.mk (stepV_slot h2) (congrArg₂ Prod.mk (stepV_slot h3) (congrArg₂ Prod.mk (stepV_slot h4) (congrArg₂ Prod.mk (stepV_slot h5) (congrArg₂ Prod.mk (stepV_slot h6) (congrArg₂ Prod.mk (stepV_slot h7) (congrArg₂ Prod.mk (stepI_slot h0 ht) (congrArg₂ Prod.mk (stepI_slot h1 ht) (congrArg₂ Prod.mk (stepI_slot h2 ht) (congrArg₂ Prod.mk (stepI_slot h3 ht) (congrArg₂ Prod.mk (stepI_slot h4 ht) (congrArg₂ Prod.mk (stepI_slot h5 ht) (congrArg₂ Prod.mk (stepI_slot h6 ht) ((stepI_slot h7 ht))))))))))))))))

/-- The step a trip names: `64` steps a chunk, one a trip. -/
theorem step_word (c k : ℕ) (hc : c < 1024) (hk : k < 64) :
    Scalar.addi (BitVec.ofNat 32 c) (Scalar.addi 0#32 (Scalar.muli (Scf.iv 0#32 1#32 k) 1#32)) = BitVec.ofNat 32 (c + k) := by
  refine BitVec.eq_of_toNat_eq ?_
  have h := WordArith.toNat_iv_zero_one k (by omega)
  simp only [Scalar.addi, Scalar.muli, IntOp.addi, IntOp.muli, BitVec.toNat_add, BitVec.toNat_mul, BitVec.toNat_ofNat, h]
  omega

variable (d : Dev nD) (L : grid0.Coords)

set_option maxHeartbeats 4000000 in
theorem trip1 (w : ℕ → F .f32) (fx : Buf (Elt F) (b0.view.loc (thr d L)))
    (hwin : ∀ (o : Fin 1 → ℕ) (inb : ∀ a, o a + S16.size a ≤ S8192.size a),
      b0.view.readAt (Elt F) (Rect.unit (s := S8192) o S16.size inb).toLoadRect fx = win w 0 o)
    (a0 a1 a2 a3 a4 a5 a6 a7 : FVec F S16 .f32) (s0 s1 s2 s3 s4 s5 s6 s7 : IVec S16 32) (k : Fin k0_t1_loop.trips) :
    (b0.view.loc (thr d L) ↦[b0.view.set]{fullShare} fx : sProp 𝕄)
      ⊢ wp frame (wpE (defs₀ (F := F)) 𝒱₀ (thr d L) none) Set.univ
          (k0_t1_body L xV (Memref.isWhole_whole _) oV (Memref.isWhole_whole _) bV (Memref.isWhole_whole _) rV (Memref.isWhole_whole _) cc0_scratch2 cc0_scratch3
            fV (Memref.isWhole_whole _) iV (Memref.isWhole_whole _) cc0_scoped0 a0 a1 a2 a3 a4 a5 a6 a7 s0 s1 s2 s3 s4 s5 s6 s7 k (carry w (0 + k.val)))
          fun acc => iprop(⌜acc = carry w (0 + k.val + 1)⌝ ∗ b0.view.loc (thr d L) ↦[b0.view.set]{fullShare} fx) := by
  unfold k0_t1_body
  rw [carry]
  unfold b0 bV at hwin ⊢
  simp only [k0_part1_eq_skeleton]; unfold k0_part1_skel
  have hk : k.val < 64 := Nat.lt_of_lt_of_le k.isLt k0_t1_abs.2.1
  have hs : ∀ u : Fin 8, win w 0 (k0_off3 k (BitVec.ofNat 32 (16 * u.val))) = seen w u.val (0 + k.val) := fun u =>
    win_seen w (k0_off3_eq k u) (by omega)
  iintro H
  sl_exec
  sl_step
  sl_exec
  sl_step
  isplitr
  · ipureintro
    exact carry_step w ((hwin _ _).trans (hs 0)) (hs 1) (hs 2) (hs 3) (hs 4) (hs 5) (hs 6) (hs 7)
      (congrArg (broadcast S16) (step_word 0 k.val (by omega) hk))
  · iexact H

set_option maxHeartbeats 4000000 in
theorem trip2 (w : ℕ → F .f32) (fx : Buf (Elt F) (b1.view.loc (thr d L)))
    (hwin : ∀ (o : Fin 1 → ℕ) (inb : ∀ a, o a + S16.size a ≤ S8192.size a),
      b1.view.readAt (Elt F) (Rect.unit (s := S8192) o S16.size inb).toLoadRect fx = win w 8192 o)
    (a0 a1 a2 a3 a4 a5 a6 a7 : FVec F S16 .f32) (s0 s1 s2 s3 s4 s5 s6 s7 : IVec S16 32) (k : Fin k0_t2_loop.trips) :
    (b1.view.loc (thr d L) ↦[b1.view.set]{fullShare} fx : sProp 𝕄)
      ⊢ wp frame (wpE (defs₀ (F := F)) 𝒱₀ (thr d L) none) Set.univ
          (k0_t2_body L xV (Memref.isWhole_whole _) oV (Memref.isWhole_whole _) bV (Memref.isWhole_whole _) rV (Memref.isWhole_whole _) cc0_scratch2 cc0_scratch3
            fV (Memref.isWhole_whole _) iV (Memref.isWhole_whole _) cc0_scoped0 a0 a1 a2 a3 a4 a5 a6 a7 s0 s1 s2 s3 s4 s5 s6 s7 0#32 1#32 k (carry w (64 + k.val)))
          fun acc => iprop(⌜acc = carry w (64 + k.val + 1)⌝ ∗ b1.view.loc (thr d L) ↦[b1.view.set]{fullShare} fx) := by
  unfold k0_t2_body
  rw [carry]
  unfold b1 bV at hwin ⊢
  simp only [k0_part2_eq_skeleton]; unfold k0_part2_skel
  have hk : k.val < 64 := Nat.lt_of_lt_of_le k.isLt k0_t2_abs.2.1
  have hs : ∀ u : Fin 8, win w 8192 (k0_off5 k (BitVec.ofNat 32 (16 * u.val))) = seen w u.val (64 + k.val) := fun u =>
    win_seen w (k0_off5_eq k u) (by omega)
  iintro H
  sl_exec
  sl_step
  sl_exec
  sl_step
  isplitr
  · ipureintro
    exact carry_step w ((hwin _ _).trans (hs 0)) (hs 1) (hs 2) (hs 3) (hs 4) (hs 5) (hs 6) (hs 7)
      (congrArg (broadcast S16) (step_word 64 k.val (by omega) hk))
  · iexact H

set_option maxHeartbeats 4000000 in
theorem trip3 (w : ℕ → F .f32) (fx : Buf (Elt F) (b0.view.loc (thr d L)))
    (hwin : ∀ (o : Fin 1 → ℕ) (inb : ∀ a, o a + S16.size a ≤ S8192.size a),
      b0.view.readAt (Elt F) (Rect.unit (s := S8192) o S16.size inb).toLoadRect fx = win w 16384 o)
    (a0 a1 a2 a3 a4 a5 a6 a7 : FVec F S16 .f32) (s0 s1 s2 s3 s4 s5 s6 s7 : IVec S16 32) (k : Fin k0_t3_loop.trips) :
    (b0.view.loc (thr d L) ↦[b0.view.set]{fullShare} fx : sProp 𝕄)
      ⊢ wp frame (wpE (defs₀ (F := F)) 𝒱₀ (thr d L) none) Set.univ
          (k0_t3_body L xV (Memref.isWhole_whole _) oV (Memref.isWhole_whole _) bV (Memref.isWhole_whole _) rV (Memref.isWhole_whole _) cc0_scratch2 cc0_scratch3
            fV (Memref.isWhole_whole _) iV (Memref.isWhole_whole _) cc0_scoped0 a0 a1 a2 a3 a4 a5 a6 a7 s0 s1 s2 s3 s4 s5 s6 s7 0#32 1#32 k (carry w (128 + k.val)))
          fun acc => iprop(⌜acc = carry w (128 + k.val + 1)⌝ ∗ b0.view.loc (thr d L) ↦[b0.view.set]{fullShare} fx) := by
  unfold k0_t3_body
  rw [carry]
  unfold b0 bV at hwin ⊢
  simp only [k0_part3_eq_skeleton]; unfold k0_part3_skel
  have hk : k.val < 64 := Nat.lt_of_lt_of_le k.isLt k0_t3_abs.2.1
  have hs : ∀ u : Fin 8, win w 16384 (k0_off7 k (BitVec.ofNat 32 (16 * u.val))) = seen w u.val (128 + k.val) := fun u =>
    win_seen w (k0_off7_eq k u) (by omega)
  iintro H
  sl_exec
  sl_step
  sl_exec
  sl_step
  isplitr
  · ipureintro
    exact carry_step w ((hwin _ _).trans (hs 0)) (hs 1) (hs 2) (hs 3) (hs 4) (hs 5) (hs 6) (hs 7)
      (congrArg (broadcast S16) (step_word 128 k.val (by omega) hk))
  · iexact H

set_option maxHeartbeats 4000000 in
theorem trip4 (w : ℕ → F .f32) (fx : Buf (Elt F) (b1.view.loc (thr d L)))
    (hwin : ∀ (o : Fin 1 → ℕ) (inb : ∀ a, o a + S16.size a ≤ S8192.size a),
      b1.view.readAt (Elt F) (Rect.unit (s := S8192) o S16.size inb).toLoadRect fx = win w 24576 o)
    (a0 a1 a2 a3 a4 a5 a6 a7 : FVec F S16 .f32) (s0 s1 s2 s3 s4 s5 s6 s7 : IVec S16 32) (k : Fin k0_t4_loop.trips) :
    (b1.view.loc (thr d L) ↦[b1.view.set]{fullShare} fx : sProp 𝕄)
      ⊢ wp frame (wpE (defs₀ (F := F)) 𝒱₀ (thr d L) none) Set.univ
          (k0_t4_body L xV (Memref.isWhole_whole _) oV (Memref.isWhole_whole _) bV (Memref.isWhole_whole _) rV (Memref.isWhole_whole _) cc0_scratch2 cc0_scratch3
            fV (Memref.isWhole_whole _) iV (Memref.isWhole_whole _) cc0_scoped0 a0 a1 a2 a3 a4 a5 a6 a7 s0 s1 s2 s3 s4 s5 s6 s7 0#32 1#32 k (carry w (192 + k.val)))
          fun acc => iprop(⌜acc = carry w (192 + k.val + 1)⌝ ∗ b1.view.loc (thr d L) ↦[b1.view.set]{fullShare} fx) := by
  unfold k0_t4_body
  rw [carry]
  unfold b1 bV at hwin ⊢
  simp only [k0_part4_eq_skeleton]; unfold k0_part4_skel
  have hk : k.val < 64 := Nat.lt_of_lt_of_le k.isLt k0_t4_abs.2.1
  have hs : ∀ u : Fin 8, win w 24576 (k0_off8 k (BitVec.ofNat 32 (16 * u.val))) = seen w u.val (192 + k.val) := fun u =>
    win_seen w (k0_off8_eq k u) (by omega)
  iintro H
  sl_exec
  sl_step
  sl_exec
  sl_step
  isplitr
  · ipureintro
    exact carry_step w ((hwin _ _).trans (hs 0)) (hs 1) (hs 2) (hs 3) (hs 4) (hs 5) (hs 6) (hs 7)
      (congrArg (broadcast S16) (step_word 192 k.val (by omega) hk))
  · iexact H

end Cert.ScKernelIdeal.Tile

end
-- ==== Proof.ScLanes.lean ====
/-
  The exchange among a tile's lanes (hand-written): the two runs of four rounds, each storing a vector into a lane scratch
  and gathering it back at the lane numbers xored with 1, 2, 4 and 8.
-/
module

public import proofs.«01_k».proof.Proof.ScTrip
public import Idealize.ShloMosaic.Lib.VecWindow

@[expose] public section

noncomputable section

namespace Cert.ScKernelIdeal.Tile

open Cert.ScKernelIdeal Cert.ScKernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The lane numbers xored with `k` are lane numbers. -/
theorem xor_lane (k : ℕ) (hk : k < 16) (x : S16.Idx) :
    (xori lanes (broadcast S16 (BitVec.ofNat 32 k)) x).toNat = (x 0).val ^^^ k := by
  have hx : (x 0).val < 16 := (x 0).isLt
  show (lanes x ^^^ BitVec.ofNat 32 k).toNat = _
  rw [BitVec.toNat_xor]
  unfold lanes
  rw [iota_single_apply]
  simp only [BitVec.toNat_ofNat]
  rw [Nat.mod_eq_of_lt (by omega), Nat.mod_eq_of_lt (by omega)]

theorem xor_lt {a k : ℕ} (ha : a < 16) (hk : k < 16) : a ^^^ k < 16 := Nat.xor_lt_two_pow (n := 4) ha hk

theorem chk_xor (k : ℕ) (hk : k < 16) :
    ∀ (a : Fin 1) (x : S16.Idx), ((![xori lanes (broadcast S16 (BitVec.ofNat 32 k))] : Fin 1 → IVec S16 32) a x).toNat < S16.size a := by
  intro a x
  match a with
  | 0 => exact (xor_lane k hk x).trans_lt (xor_lt (x 0).isLt hk)

/-- Gathering at them exchanges the lanes. -/
theorem loadIdx_xor {e : EltTy} (f : Vec F S16 e) (k : ℕ) (hk : k < 16)
    (h : ∀ (a : Fin 1) (x : S16.Idx), ((![xori lanes (broadcast S16 (BitVec.ofNat 32 k))] : Fin 1 → IVec S16 32) a x).toNat < S16.size a) :
    loadIdx f ![xori lanes (broadcast S16 (BitVec.ofNat 32 k))] h = xl k f := by
  funext x
  refine congrArg f (funext fun a => ?_)
  match a with
  | 0 =>
    refine Fin.ext ?_
    show (xori lanes (broadcast S16 (BitVec.ofNat 32 k)) x).toNat = ((x 0).val ^^^ k) % 16
    rw [xor_lane k hk, Nat.mod_eq_of_lt (xor_lt (x 0).isLt hk)]

variable (d : Dev nD) (L : grid0.Coords)

/-- The three small scratches held, at their contents. -/
abbrev fP (f : Buf (Elt F) (fV.view.loc (thr d L))) : sProp 𝕄 := fV.view.loc (thr d L) ↦{fullShare} f
abbrev iP (f : Buf (Elt F) (iV.view.loc (thr d L))) : sProp 𝕄 := iV.view.loc (thr d L) ↦{fullShare} f
abbrev rP (f : Buf (Elt F) (rV.view.loc (thr d L))) : sProp 𝕄 := rV.view.loc (thr d L) ↦{fullShare} f

/-- A whole store into a lane scratch leaves the value stored. -/
theorem fV_writes (f : Buf (Elt F) (fV.view.loc (thr d L))) (v : FVec F S16 .f32) :
    (fV.view.loc (thr d L) ↦{fullShare} fV.view.writes (Elt F) f [⟨Rect.unit ![0] S16.size inb_S16_S16_0, v⟩] : sProp 𝕄)
      = fV.view.loc (thr d L) ↦{fullShare} (v : Buf (Elt F) (fV.view.loc (thr d L))) :=
  congrArg (fun g => (fV.view.loc (thr d L) ↦{fullShare} g : sProp 𝕄))
    (View.read_writes_full fV.view f inb_S16_S16_0 v [])

theorem iV_writes (f : Buf (Elt F) (iV.view.loc (thr d L))) (v : IVec S16 32) :
    (iV.view.loc (thr d L) ↦{fullShare} iV.view.writes (Elt F) f [⟨Rect.unit ![0] S16.size inb_S16_S16_0, v⟩] : sProp 𝕄)
      = iV.view.loc (thr d L) ↦{fullShare} (v : Buf (Elt F) (iV.view.loc (thr d L))) :=
  congrArg (fun g => (iV.view.loc (thr d L) ↦{fullShare} g : sProp 𝕄))
    (View.read_writes_full iV.view f inb_S16_S16_0 v [])

theorem rV_writes (f : Buf (Elt F) (rV.view.loc (thr d L))) (v : IVec S16 32) :
    (rV.view.loc (thr d L) ↦{fullShare} rV.view.writes (Elt F) f [⟨Rect.unit ![0] S16.size inb_S16_S16_0, v⟩] : sProp 𝕄)
      = rV.view.loc (thr d L) ↦{fullShare} (v : Buf (Elt F) (rV.view.loc (thr d L))) :=
  congrArg (fun g => (rV.view.loc (thr d L) ↦{fullShare} g : sProp 𝕄))
    (View.read_writes_full rV.view f inb_S16_S16_0 v [])

/-- A gather of a lane scratch at the lane numbers xored with `k`. -/
theorem gatherF {α : Type} (x : FVec F S16 .f32) {v : Vec F S16 .f32} (hv : v = x) (iv : IVec S16 32) (k : ℕ) (hk : k < 16)
    (hiv : iv = xori lanes (broadcast S16 (BitVec.ofNat 32 k)))
    {h : ∀ (a : Fin 1) (x : S16.Idx), ((![iv] : Fin 1 → IVec S16 32) a x).toNat < S16.size a} {hl : fV.view.Loads}
    {K : Vec F S16 .f32 → Prog (TpuEff nD τ sig (Elt F) Λ₀ (thr d L).2) α} {Q : α → sProp 𝕄} :
    (fV.view.loc (thr d L) ↦{fullShare} (v : Buf (Elt F) (fV.view.loc (thr d L))) : sProp 𝕄)
      ⊢ iprop(((fV.view.loc (thr d L) ↦{fullShare} (v : Buf (Elt F) (fV.view.loc (thr d L))))
          -∗ wp frame (wpE (defs₀ (F := F)) 𝒱₀ (thr d L) none) Set.univ (K (xl k x)) Q)
        -∗ wp frame (wpE (defs₀ (F := F)) 𝒱₀ (thr d L) none) Set.univ (SparseCore.vectorLoadIdx fV ![iv] h hl >>= K) Q) := by
  subst hiv
  have e := SparseCore.wp_vectorLoadIdx (F := F) (defs := defs₀ (F := F)) 𝒱₀ (thr d L) none Set.univ (base := fV) (h := h) (hl := hl) (k := K) (Q := Q)
    (S := Finset.univ) (q := fullShare) (f := (v : Buf (Elt F) (fV.view.loc (thr d L)))) (Finset.subset_univ _)
  rw [show loadIdx ((fV.access (Rect.whole S16)).read (Elt F) (v : Buf (Elt F) (fV.view.loc (thr d L))))
      ![xori lanes (broadcast S16 (BitVec.ofNat 32 k))] h = xl k x from
    (loadIdx_xor (F := F) (e := .f32) _ k hk h).trans (congrArg (xl k) ((Memref.read_access_whole (Elt F) cc0_scratch4 _).trans hv))] at e
  exact e

/-- A gather of the other lane scratch at the lane numbers xored with `k`. -/
theorem gatherI {α : Type} (x : IVec S16 32) {v : Vec F S16 .i32} (hv : v = x) (iv : IVec S16 32) (k : ℕ) (hk : k < 16)
    (hiv : iv = xori lanes (broadcast S16 (BitVec.ofNat 32 k)))
    {h : ∀ (a : Fin 1) (x : S16.Idx), ((![iv] : Fin 1 → IVec S16 32) a x).toNat < S16.size a} {hl : iV.view.Loads}
    {K : Vec F S16 .i32 → Prog (TpuEff nD τ sig (Elt F) Λ₀ (thr d L).2) α} {Q : α → sProp 𝕄} :
    (iV.view.loc (thr d L) ↦{fullShare} (v : Buf (Elt F) (iV.view.loc (thr d L))) : sProp 𝕄)
      ⊢ iprop(((iV.view.loc (thr d L) ↦{fullShare} (v : Buf (Elt F) (iV.view.loc (thr d L))))
          -∗ wp frame (wpE (defs₀ (F := F)) 𝒱₀ (thr d L) none) Set.univ (K (xl k x)) Q)
        -∗ wp frame (wpE (defs₀ (F := F)) 𝒱₀ (thr d L) none) Set.univ (SparseCore.vectorLoadIdx iV ![iv] h hl >>= K) Q) := by
  subst hiv
  have e := SparseCore.wp_vectorLoadIdx (F := F) (defs := defs₀ (F := F)) 𝒱₀ (thr d L) none Set.univ (base := iV) (h := h) (hl := hl) (k := K) (Q := Q)
    (S := Finset.univ) (q := fullShare) (f := (v : Buf (Elt F) (iV.view.loc (thr d L)))) (Finset.subset_univ _)
  rw [show loadIdx ((iV.access (Rect.whole S16)).read (Elt F) (v : Buf (Elt F) (iV.view.loc (thr d L))))
      ![xori lanes (broadcast S16 (BitVec.ofNat 32 k))] h = xl k x from
    (loadIdx_xor (F := F) (e := .i32) _ k hk h).trans (congrArg (xl k) ((Memref.read_access_whole (Elt F) cc0_scratch5 _).trans hv))] at e
  exact e

theorem part10 (v v' : FVec F S16 .f32) (p p' : IVec S16 32) (f : Buf (Elt F) (fV.view.loc (thr d L))) :
    (fV.view.loc (thr d L) ↦{fullShare} f : sProp 𝕄)
      ⊢ wp frame (wpE (defs₀ (F := F)) 𝒱₀ (thr d L) none) Set.univ
          (k0_part10 L xV (Memref.isWhole_whole _) oV (Memref.isWhole_whole _) bV (Memref.isWhole_whole _) rV (Memref.isWhole_whole _) cc0_scratch2 cc0_scratch3
            fV (Memref.isWhole_whole _) iV (Memref.isWhole_whole _) cc0_scoped0 v p v' p')
          fun acc => iprop(⌜acc.1 = named (bestV v v' p p') (bestI v v' p p')⌝ ∗ ⌜acc.2 = lanes⌝ ∗ ∃ f', fP d L f') := by
  rw [k0_part10_eq_skeleton]; unfold k0_part10_skel
  have h1 : k0_chk1 k0_pay179 := chk_xor 1 (by decide)
  have h2 : k0_chk2 k0_pay182 := chk_xor 2 (by decide)
  have h3 : k0_chk3 k0_pay185 := chk_xor 4 (by decide)
  have h4 : k0_chk4 k0_pay188 := chk_xor 8 (by decide)
  have e0 : k0_pay180 v p v' p' = bestV v v' p p' := shapeCast_self _ _
  have e1 : ∀ x, k0_pay183 v p v' p' x = maximumf (bestV v v' p p') x := fun x => shapeCast_self _ _
  have e2 : ∀ x y, k0_pay186 v p v' p' x y = maximumf (maximumf (bestV v v' p p') x) y := fun x y => shapeCast_self _ _
  have e3 : ∀ x y z, k0_pay189 v p v' p' x y z = maximumf (maximumf (maximumf (bestV v v' p p') x) y) z := fun x y z => shapeCast_self _ _
  iintro H
  sl_exec
  ihave H1 := (Entails.of_eq (fV_writes d L _ _)) $$ H
  iapply (gatherF d L _ e0 _ 1 (by decide) rfl) $$ H1; iintro H
  sl_exec
  ihave H1 := (Entails.of_eq (fV_writes d L _ _)) $$ H
  iapply (gatherF d L _ (e1 _) _ 2 (by decide) rfl) $$ H1; iintro H
  sl_exec
  ihave H1 := (Entails.of_eq (fV_writes d L _ _)) $$ H
  iapply (gatherF d L _ (e2 _ _) _ 4 (by decide) rfl) $$ H1; iintro H
  sl_exec
  ihave H1 := (Entails.of_eq (fV_writes d L _ _)) $$ H
  iapply (gatherF d L _ (e3 _ _ _) _ 8 (by decide) rfl) $$ H1; iintro H
  sl_exec
  sl_step
  isplitr
  · ipureintro
    rfl
  isplitr
  · ipureintro
    rfl
  · iexists _
    iexact H

theorem part11 (l p l' : IVec S16 32) (hl : l = lanes) (hl' : l' = lanes) (f : Buf (Elt F) (iV.view.loc (thr d L))) (fr : Buf (Elt F) (rV.view.loc (thr d L))) :
    iprop(iP d L f ∗ rP d L fr)
      ⊢ wp frame (wpE (defs₀ (F := F)) 𝒱₀ (thr d L) none) Set.univ
          (k0_part11 L xV (Memref.isWhole_whole _) oV (Memref.isWhole_whole _) bV (Memref.isWhole_whole _) rV (Memref.isWhole_whole _) cc0_scratch2 cc0_scratch3
            fV (Memref.isWhole_whole _) iV (Memref.isWhole_whole _) cc0_scoped0 l p l')
          fun _ => iprop((∃ f', iP d L f') ∗ rP d L (stored p)) := by
  subst hl hl'
  rw [k0_part11_eq_skeleton]; unfold k0_part11_skel
  have h1 : k0_chk5 (k0_pay191 lanes) := chk_xor 1 (by decide)
  have h2 : k0_chk6 k0_pay194 := chk_xor 2 (by decide)
  have h3 : k0_chk7 k0_pay197 := chk_xor 4 (by decide)
  have h4 : k0_chk8 k0_pay200 := chk_xor 8 (by decide)
  have e0 : k0_pay192 p = p := shapeCast_self _ _
  have e1 : ∀ x : IVec S16 32, k0_pay195 (F := F) p x = minsi p x := fun x => shapeCast_self _ _
  have e2 : ∀ x y : IVec S16 32, k0_pay198 (F := F) p x y = minsi (minsi p x) y := fun x y => shapeCast_self _ _
  have e3 : ∀ x y z : IVec S16 32, k0_pay201 (F := F) p x y z = minsi (minsi (minsi p x) y) z := fun x y z => shapeCast_self _ _
  have e4 : ∀ x y z u : IVec S16 32, k0_pay202 (F := F) lanes p x y z u
      = select (cmpi .eq lanes (broadcast S16 0#32)) (minsi (minsi (minsi (minsi p x) y) z) u) (broadcast S16 0#32) :=
    fun x y z u => shapeCast_self _ _
  iintro ⟨H, HR⟩
  sl_exec
  ihave H1 := (Entails.of_eq (iV_writes d L _ _)) $$ H
  iapply (gatherI d L _ e0 _ 1 (by decide) rfl) $$ H1; iintro H
  sl_exec
  ihave H1 := (Entails.of_eq (iV_writes d L _ _)) $$ H
  iapply (gatherI d L _ (e1 _) _ 2 (by decide) rfl) $$ H1; iintro H
  sl_exec
  ihave H1 := (Entails.of_eq (iV_writes d L _ _)) $$ H
  iapply (gatherI d L _ (e2 _ _) _ 4 (by decide) rfl) $$ H1; iintro H
  sl_exec
  ihave H1 := (Entails.of_eq (iV_writes d L _ _)) $$ H
  iapply (gatherI d L _ (e3 _ _ _) _ 8 (by decide) rfl) $$ H1; iintro H
  sl_exec
  ihave HR1 := (Entails.of_eq ((rV_writes d L _ _).trans (congrArg (fun g : IVec S16 32 =>
    (rV.view.loc (thr d L) ↦{fullShare} (g : Buf (Elt F) (rV.view.loc (thr d L))) : sProp 𝕄)) (e4 _ _ _ _)))) $$ HR
  sl_step
  isplitl [H]
  · iexists _
    iexact H
  · iexact HR1

end Cert.ScKernelIdeal.Tile

end
-- ==== Proof.ScBody.lean ====
/-
  One SparseCore tile's task (hand-written): the row of `x` streamed in four chunks through the two staging rows, the next
  chunk's copy in flight while a chunk is read, the sixteen lanes' exchange and the row of the output written back.
-/
module

public import proofs.«01_k».proof.Proof.ScLanes

@[expose] public section

noncomputable section

namespace Cert.ScKernelIdeal.Tile

open Cert.ScKernelIdeal Cert.ScKernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.SparseCore.Cfg (ownBufs ownSems0 ownCells ownRefs mem_ownCells mem_ownRefs)

variable {F : FTy → Type} [FloatOps F]

local notation "𝕄" => MT nD τ sig (HIx 1) (Elt F) ℕ UU ℕ

/-! ## The row of `x` -/

/-- Index `(r, k)` of `x`. -/
def xIx (r k : ℕ) : S128x32768.Idx := fun a => match a with
  | 0 => ⟨r % 128, Nat.mod_lt _ (by decide)⟩
  | 1 => ⟨k % 32768, Nat.mod_lt _ (by decide)⟩

/-- Row `r` of `x`, as a function of the column. -/
def rowOf (x : S128x32768.Idx → F .f32) (r k : ℕ) : F .f32 := x (xIx r k)

section Row
variable (d : Dev nD)

/-- A chunk of `x` as the kernel slices it. -/
abbrev xC (off : Fin 2 → ℕ) (inb : ∀ a, off a + S1x8192.size a ≤ S128x32768.size a) : Memref sig .scVector .hbm S8192 .f32 :=
  (xV.slice (Rect.unit (s := S128x32768) off S1x8192.size inb) (fun _ => rfl)).squeeze S8192 squeezes_S1x8192_S8192

theorem chunk_read (x : Buf (Elt F) (xLoc d)) {off : Fin 2 → ℕ} (inb : ∀ a, off a + S1x8192.size a ≤ S128x32768.size a) {r base : ℕ}
    (ho : off = ![r, base]) (j : S8192.Idx) :
    (xC off inb).view.read (Elt F) x j = rowOf (F := F) x r (base + (j 0).val) := by
  subst ho
  have hr := inb 0
  have hb := inb 1
  have hj : (j 0).val < 8192 := (j 0).isLt
  let k : S1x8192.Idx := fun a => match a with
    | 0 => ⟨0, by decide⟩
    | 1 => ⟨(j 0).val, hj⟩
  refine (congrFun (Memref.read_squeeze_slice xV _ _ _ (show S1x8192.ShapeCasts S8192 from squeezes_S1x8192_S8192.numel_eq) x) j).trans ?_
  refine (shapeCast_apply _ _ j k ?_).trans ?_
  · rw [Shape.rowMajor_val_two, Shape.rowMajor_val_one]
    show 0 * 8192 + (j 0).val = (j 0).val
    omega
  · refine congrArg x (funext fun a => Fin.ext ?_)
    match a with
    | 0 => show r + 0 * 1 = r % 128; change r + 1 ≤ 128 at hr; omega
    | 1 => show base + 1 * (j 0).val = (base + (j 0).val) % 32768; change base + 8192 ≤ 32768 at hb; omega

/-- What a staging row reads after a copy into it. -/
theorem win_b0 (L : grid0.Coords) (w : ℕ → F .f32) (base : ℕ) (f : Buf (Elt F) (b0.view.loc (thr d L))) (pay : S8192.Idx → F .f32)
    (hp : ∀ j, pay j = w (base + (j 0).val)) (o : Fin 1 → ℕ) (inb : ∀ a, o a + S16.size a ≤ S8192.size a) :
    b0.view.readAt (Elt F) (Rect.unit (s := S8192) o S16.size inb).toLoadRect (b0.view.writes (Elt F) f [⟨Rect.whole S8192, pay⟩]) = win w base o := by
  funext j
  rw [View.readAt_apply, View.read_writes_whole, hp]
  refine congrArg w ?_
  show base + (o 0 + 1 * (j 0).val) = base + (o 0 + (j 0).val)
  omega

theorem win_b1 (L : grid0.Coords) (w : ℕ → F .f32) (base : ℕ) (f : Buf (Elt F) (b1.view.loc (thr d L))) (pay : S8192.Idx → F .f32)
    (hp : ∀ j, pay j = w (base + (j 0).val)) (o : Fin 1 → ℕ) (inb : ∀ a, o a + S16.size a ≤ S8192.size a) :
    b1.view.readAt (Elt F) (Rect.unit (s := S8192) o S16.size inb).toLoadRect (b1.view.writes (Elt F) f [⟨Rect.whole S8192, pay⟩]) = win w base o := by
  funext j
  rw [View.readAt_apply, View.read_writes_whole, hp]
  refine congrArg w ?_
  show base + (o 0 + 1 * (j 0).val) = base + (o 0 + (j 0).val)
  omega

end Row

/-! ## The task -/

section Task

variable (d : Dev nD) (L : grid0.Coords)

/-- The row of the output, as the kernel slices it. -/
abbrev oRowK : Memref sig .scVector .hbm S16 .i32 :=
  (oV.slice (Rect.unit (s := S32x16) (k0_off9 L) S1x16.size (k0_off9_inb L)) (fun _ => rfl)).squeeze S16 squeezes_S1x16_S16

/-- A tile's row of `x`. -/
abbrev rowNo (L : grid0.Coords) : ℕ := 2 * (L 1).val + (L 0).val

/-- `x` held at a share, as the tile names it. -/
abbrev xP (q : PosShare TreeShare) (x : Buf (Elt F) (xLoc d)) : sProp 𝕄 := xV.view.loc (thr d L) ↦{q} x
/-- The row of the output. -/
abbrev oP (f : Buf (Elt F) (oLoc d)) : sProp 𝕄 := (oRowK L).view.loc (thr d L) ↦[(oRowK L).view.set]{fullShare} f
/-- The staging rows. -/
abbrev b0P (f : Buf (Elt F) (b0.view.loc (thr d L))) : sProp 𝕄 := b0.view.loc (thr d L) ↦[b0.view.set]{fullShare} f
abbrev b1P (f : Buf (Elt F) (b1.view.loc (thr d L))) : sProp 𝕄 := b1.view.loc (thr d L) ↦[b1.view.set]{fullShare} f

abbrev sem0 : GSem nD τ sig := (thr d L, .dma cc0_scratch2.sem)
abbrev sem1 : GSem nD τ sig := (thr d L, .dma cc0_scratch3.sem)
abbrev sem2 : GSem nD τ sig := (thr d L, .dma cc0_scoped0.sem)

set_option maxHeartbeats 8000000 in
theorem task (q : PosShare TreeShare) (x : Buf (Elt F) (xLoc d)) (fo : Buf (Elt F) (oLoc d)) (f0 : Buf (Elt F) (b0.view.loc (thr d L)))
    (f1 : Buf (Elt F) (b1.view.loc (thr d L))) (fr : Buf (Elt F) (rV.view.loc (thr d L))) (ff : Buf (Elt F) (fV.view.loc (thr d L)))
    (fi : Buf (Elt F) (iV.view.loc (thr d L))) (O : CellTallies nD τ sig (HIx 1)) (W : Waits sig (HIx 1)) :
    iprop(Transfers.MayWaits (thr d L) (default : HIx 1) O
        ∗ (xP d L (Transfers.shareTokN q 0) x ∗ xP d L (Transfers.shareTokN q 1) x ∗ oP d L fo)
        ∗ (b0P d L f0 ∗ b1P d L f1 ∗ rP d L fr ∗ fP d L ff ∗ iP d L fi)
        ∗ (semVal (sem0 d L) 0 ∗ semVal (sem1 d L) 0 ∗ semVal (sem2 d L) 0) ∗ owes (thr d L) O W)
      ⊢ wp frame (wpE (defs₀ (F := F)) 𝒱₀ (thr d L) none) Set.univ
          (cc0__argmax_rows_sc L xV (Memref.isWhole_whole _) oV (Memref.isWhole_whole _) bV (Memref.isWhole_whole _) rV (Memref.isWhole_whole _)
            cc0_scratch2 cc0_scratch3 fV (Memref.isWhole_whole _) iV (Memref.isWhole_whole _) cc0_scoped0)
          fun _ => iprop((xP d L (Transfers.shareTokN q 0) x ∗ xP d L (Transfers.shareTokN q 1) x
              ∗ oP d L ((oRowK L).view.writes (Elt F) fo [⟨Rect.whole S16, tileOut (rowOf (F := F) x (rowNo L))⟩]))
            ∗ ((∃ f, b0P d L f) ∗ (∃ f, b1P d L f) ∗ (∃ f, rP d L f) ∗ (∃ f, fP d L f) ∗ ∃ f, iP d L f)
            ∗ (semVal (sem0 d L) 0 ∗ semVal (sem1 d L) 0 ∗ semVal (sem2 d L) 0)
            ∗ ∃ W', ⌜∀ p ∈ W', p ∈ W ∨ p.2 = none⌝ ∗ owes (thr d L) O W') := by
  simp only [cc0__argmax_rows_sc_eq_skeleton]
  unfold cc0__argmax_rows_sc_skel
  iintro ⟨#Hmw, ⟨Hx0, Hx1, Ho⟩, ⟨Hb0, Hb1, Hr, Hf, Hi⟩, ⟨Hs0, Hs1, Hs2⟩, HO⟩
  sl_exec
  have hw0 := win_b0 d L (rowOf (F := F) x (rowNo L)) 0 b0.view.junk (task.sl.dma0 d L x) (chunk_read d x (k0_off1_inb L) (k0_off1_eq L))
  generalize b0.view.writes (Elt F) _ [⟨Rect.whole S8192, task.sl.dma0 d L x⟩] = g0 at hw0 ⊢
  sl_for (fun k acc => iprop(⌜acc = carry (rowOf (F := F) x (rowNo L)) (0 + k)⌝ ∗ b0P d L g0)) $$ [Hb0]
  case region =>
    intro k acc
    iintro ⟨%h, H⟩
    subst h
    iapply (trip1 d L _ g0 hw0)
    iexact H
  · isplitr
    · ipureintro; rfl
    · iexact Hb0
  iintro %acc ⟨%h, Hb0⟩
  rw [show 0 + k0_t1_loop.trips = 64 by decide] at h
  subst h
  unfold carry
  sl_exec
  have hw1 := win_b1 d L (rowOf (F := F) x (rowNo L)) 8192 b1.view.junk (task.sl.dma0_1 d L x) (chunk_read d x (k0_off2_inb L) (k0_off2_eq L))
  generalize b1.view.writes (Elt F) _ [⟨Rect.whole S8192, task.sl.dma0_1 d L x⟩] = g1 at hw1 ⊢
  sl_for (fun k acc => iprop(⌜acc = carry (rowOf (F := F) x (rowNo L)) (64 + k)⌝ ∗ b1P d L g1)) $$ [Hb1]
  case region =>
    intro k acc
    iintro ⟨%h, H⟩
    subst h
    iapply (trip2 d L _ g1 hw1)
    iexact H
  · isplitr
    · ipureintro; rfl
    · iexact Hb1
  iintro %acc ⟨%h, Hb1⟩
  rw [show 64 + k0_t2_loop.trips = 128 by decide] at h
  subst h
  unfold carry
  sl_exec
  have hw2 := win_b0 d L (rowOf (F := F) x (rowNo L)) 16384 b0.view.junk (task.sl.dma0_2 d L x) (chunk_read d x (k0_off4_inb L) (k0_off4_eq L))
  generalize b0.view.writes (Elt F) _ [⟨Rect.whole S8192, task.sl.dma0_2 d L x⟩] = g2 at hw2 ⊢
  sl_for (fun k acc => iprop(⌜acc = carry (rowOf (F := F) x (rowNo L)) (128 + k)⌝ ∗ b0P d L g2)) $$ [Hb0]
  case region =>
    intro k acc
    iintro ⟨%h, H⟩
    subst h
    iapply (trip3 d L _ g2 hw2)
    iexact H
  · isplitr
    · ipureintro; rfl
    · iexact Hb0
  iintro %acc ⟨%h, Hb0⟩
  rw [show 128 + k0_t3_loop.trips = 192 by decide] at h
  subst h
  unfold carry
  sl_exec
  have hw3 := win_b1 d L (rowOf (F := F) x (rowNo L)) 24576 b1.view.junk (task.sl.dma0_3 d L x) (chunk_read d x (k0_off6_inb L) (k0_off6_eq L))
  generalize b1.view.writes (Elt F) _ [⟨Rect.whole S8192, task.sl.dma0_3 d L x⟩] = g3 at hw3 ⊢
  sl_for (fun k acc => iprop(⌜acc = carry (rowOf (F := F) x (rowNo L)) (192 + k)⌝ ∗ b1P d L g3)) $$ [Hb1]
  case region =>
    intro k acc
    iintro ⟨%h, H⟩
    subst h
    iapply (trip4 d L _ g3 hw3)
    iexact H
  · isplitr
    · ipureintro; rfl
    · iexact Hb1
  iintro %acc ⟨%h, Hb1⟩
  rw [show 192 + k0_t4_loop.trips = 256 by decide] at h
  subst h
  unfold carry
  have hc10 := part10 (F := F) d L
  have hc11 := part11 (F := F) d L
  have hv2 : task.sl.v2 = lanes := rfl
  sl_exec
  sl_step
  have hv : stored v230 = tileOut (rowOf (F := F) x (rowNo L)) := congrArg stored hk0_part10_0
  have hd : task.sl.dma0_4 (F := F) v230 = tileOut (rowOf (F := F) x (rowNo L)) := by
    unfold task.sl.dma0_4
    exact (View.read_whole cc0_scratch1 _).trans hv
  rw [hd]
  isplitl [Hx0 Hx1 Ho]
  · isplitl [Hx0]; · iexact Hx0
    isplitl [Hx1]; · iexact Hx1
    iexact Ho
  isplitl [Hb0 Hb1 Hk0_part11_1 Hk0_part10_2 Hk0_part11_0]
  · isplitl [Hb0]; · iexists _; iexact Hb0
    isplitl [Hb1]; · iexists _; iexact Hb1
    isplitl [Hk0_part11_1]; · iexists _; iexact Hk0_part11_1
    isplitl [Hk0_part10_2]; · iexists _; iexact Hk0_part10_2
    iexists _; iexact Hk0_part11_0
  isplitl [Hs0 Hs1 Hs2]
  · isplitl [Hs0]; · iexact Hs0
    isplitl [Hs1]; · iexact Hs1
    iexact Hs2
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

end Task

end Cert.ScKernelIdeal.Tile

end
-- ==== Proof.ScRows.lean ====
/-
  How the SparseCore call's arrays are shared out (hand-written): a read share of `x` and one row of the output to each of the
  thirty-two tiles, the rows' cover of the output, and what the output holds once every tile has written its row.
-/
module

public import proofs.«01_k».proof.Proof.ScBody

@[expose] public section

noncomputable section

namespace Cert.ScKernelIdeal.Tile

open Cert.ScKernelIdeal Cert.ScKernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

open Idealize.ShloMosaic.SparseCore.Cfg (ownBufs ownSems0 ownCells ownRefs mem_ownCells mem_ownRefs)

/-! ## A tile's coordinates and its row of the output -/

/-- The coordinates of SparseCore `c`'s subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- The output's elements under a tile's row. -/
abbrev oSet (L : grid0.Coords) : Finset S32x16.Idx := (oRowK L).view.set

omit [FloatOps F] in
theorem mem_oSet (L : grid0.Coords) (i : S32x16.Idx) : i ∈ oSet L ↔ (i 0).val = rowNo L := by
  have e : oSet L = (Rect.unit (s := S32x16) (k0_off9 L) S1x16.size (k0_off9_inb L)).set := by
    show ((oV.view.slice (Rect.unit (s := S32x16) (k0_off9 L) S1x16.size (k0_off9_inb L))).reshape S16 squeezes_S1x16_S16.numel_eq).set = _
    rw [View.set_reshape]
    exact View.set_slice_whole _ _
  rw [e, Rect.mem_set_unit, k0_off9_eq]
  constructor
  · intro h
    have h0 := h 0
    change 2 * (L 1).val + (L 0).val ≤ (i 0).val ∧ (i 0).val < 2 * (L 1).val + (L 0).val + 1 at h0
    show (i 0).val = 2 * (L 1).val + (L 0).val
    omega
  · intro h a
    change (i 0).val = 2 * (L 1).val + (L 0).val at h
    have h1 : (i 1).val < 16 := (i 1).isLt
    match a with
    | 0 => show 2 * (L 1).val + (L 0).val ≤ (i 0).val ∧ (i 0).val < 2 * (L 1).val + (L 0).val + 1; omega
    | 1 => show 0 ≤ (i 1).val ∧ (i 1).val < 0 + 16; omega

/-- The tiles' rows, by SparseCore and subcore. -/
abbrev tile (p : Fin 2 × Fin 16) : grid0.Coords := coordsV p.1 p.2

omit [FloatOps F] in
theorem rowNo_tile (p : Fin 2 × Fin 16) : rowNo (tile p) = 2 * p.2.val + p.1.val := rfl

omit [FloatOps F] in
theorem rows_disjoint : ∀ p ∈ (Finset.univ : Finset (Fin 2 × Fin 16)), ∀ p' ∈ (Finset.univ : Finset (Fin 2 × Fin 16)), p ≠ p' →
    Disjoint (oSet (tile p)) (oSet (tile p')) := fun p _ p' _ h => by
  rw [Finset.disjoint_left]
  intro i hi hi'
  rw [mem_oSet, rowNo_tile] at hi hi'
  have h1 := p.1.isLt
  have h2 := p'.1.isLt
  exact h (Prod.ext (Fin.ext (by omega)) (Fin.ext (by omega)))

omit [FloatOps F] in
theorem rows_cover : (Finset.univ : Finset (Fin 2 × Fin 16)).biUnion (fun p => oSet (tile p)) = Finset.univ := by
  ext i
  simp only [Finset.mem_biUnion, Finset.mem_univ, true_and, iff_true]
  have hi : (i 0).val < 32 := (i 0).isLt
  refine ⟨(⟨(i 0).val % 2, Nat.mod_lt _ (by decide)⟩, ⟨(i 0).val / 2, by omega⟩), (mem_oSet _ _).mpr ?_⟩
  rw [rowNo_tile]
  show (i 0).val = 2 * ((i 0).val / 2) + (i 0).val % 2
  omega

/-- One row of the output, held by its tile. -/
abbrev oRow (d : Dev nD) (p : Fin 2 × Fin 16) (f : Buf (Elt F) (oLoc d)) : sProp 𝕄 := oLoc d ↦[oSet (tile p)]{fullShare} f

omit [FloatOps F] in
/-- The output whole is its rows, SparseCore by SparseCore. -/
theorem oPts_rows (d : Dev nD) (f : Buf (Elt F) (oLoc d)) :
    (oLoc d ↦{fullShare} f : sProp 𝕄) = bigSep Finset.univ fun c : Fin 2 => bigSep Finset.univ fun i : Fin 16 => oRow d (c, i) f := by
  rw [← bigSep_univ_prod (fun p : Fin 2 × Fin 16 => oRow d p f),
    ← pointsTo_biUnion Finset.univ (ℓ := oLoc d) (fun p : Fin 2 × Fin 16 => oSet (tile p)) rows_disjoint, rows_cover]
  try rfl

/-! ## What the output ends as -/

/-- The output once every tile has written its row: row `r` the sixteen lanes the tile of row `r` stores. -/
def Gout (x : S128x32768.Idx → F .f32) : S32x16.Idx → BitVec 32 := fun i => tileOut (rowOf (F := F) x (i 0).val) (lane (i 1).val)

omit [FloatOps F] in
theorem lane_self (j : S16.Idx) : lane (j 0).val = j := by
  funext a
  match a with
  | 0 =>
    have h : (j 0).val < 16 := (j 0).isLt
    exact Fin.ext (Nat.mod_eq_of_lt h)

/-- Index `(r, k)` of the output. -/
def oIx (r k : ℕ) : S32x16.Idx := fun a => match a with
  | 0 => ⟨r % 32, Nat.mod_lt _ (by decide)⟩
  | 1 => ⟨k % 16, Nat.mod_lt _ (by decide)⟩

omit [FloatOps F] in
theorem rowNo_lt (L : grid0.Coords) : rowNo L < 32 := by
  have h0 : (L 0).val < 2 := (L 0).isLt
  have h1 : (L 1).val < 16 := (L 1).isLt
  show 2 * (L 1).val + (L 0).val < 32
  omega

omit [FloatOps F] in
/-- A tile's row of the output, read. -/
theorem row_read (d : Dev nD) (L : grid0.Coords) (g : Buf (Elt F) (oLoc d)) (j : S16.Idx) :
    (oRowK L).view.read (Elt F) g j = (g : S32x16.Idx → BitVec 32) (oIx (rowNo L) (j 0).val) := by
  have hj : (j 0).val < 16 := (j 0).isLt
  have hr := rowNo_lt L
  let k : S1x16.Idx := fun a => match a with
    | 0 => ⟨0, by decide⟩
    | 1 => ⟨(j 0).val, hj⟩
  refine (congrFun (Memref.read_squeeze_slice oV _ _ _ (show S1x16.ShapeCasts S16 from squeezes_S1x16_S16.numel_eq) g) j).trans ?_
  refine (shapeCast_apply _ _ j k ?_).trans ?_
  · rw [Shape.rowMajor_val_two, Shape.rowMajor_val_one]
    show 0 * 16 + (j 0).val = (j 0).val
    omega
  · refine congrArg (g : S32x16.Idx → BitVec 32) (funext fun a => Fin.ext ?_)
    match a with
    | 0 =>
      show k0_off9 L 0 + 1 * 0 = rowNo L % 32
      rw [k0_off9_eq]
      show rowNo L + 1 * 0 = rowNo L % 32
      omega
    | 1 =>
      show k0_off9 L 1 + 1 * (j 0).val = (j 0).val % 16
      rw [k0_off9_eq]
      show 0 + 1 * (j 0).val = (j 0).val % 16
      omega

/-- What the tile of row `rowNo L` leaves there is `Gout`'s row. -/
theorem row_written (d : Dev nD) (L : grid0.Coords) (x : Buf (Elt F) (xLoc d)) (fo : Buf (Elt F) (oLoc d)) :
    ∀ i ∈ oSet L, ((oRowK L).view.writes (Elt F) fo [⟨Rect.whole S16, tileOut (rowOf (F := F) x (rowNo L))⟩] : S32x16.Idx → BitVec 32) i
      = Gout (F := F) x i := by
  intro i hi
  obtain ⟨j, -, rfl⟩ := Finset.mem_map.mp hi
  have h := congrFun (View.read_writes_whole (Val := Elt F) (oRowK L).view fo (tileOut (rowOf (F := F) x (rowNo L)))) j
  have h2 := row_read (F := F) d L (Gout (F := F) x) j
  have h3 : Gout (F := F) x (oIx (rowNo L) (j 0).val) = tileOut (rowOf (F := F) x (rowNo L)) j := by
    have e0 : ((oIx (rowNo L) (j 0).val) 0).val = rowNo L := Nat.mod_eq_of_lt (rowNo_lt L)
    have e1 : ((oIx (rowNo L) (j 0).val) 1).val = (j 0).val := Nat.mod_eq_of_lt (j 0).isLt
    unfold Gout
    rw [e0, e1, lane_self]
  exact (((View.read_apply _ _).trans (cast_eq _ _)).symm.trans h).trans
    (h3.symm.trans (h2.symm.trans ((View.read_apply _ _).trans (cast_eq _ _))))

end Cert.ScKernelIdeal.Tile

end
-- ==== Proof.ScLaunch.lean ====
/-
  The SparseCore call's launch (hand-written): what the TensorCore hands each SparseCore and each tile and takes back, the
  tile's obligation from its task, and the whole program's run — from any memory it ends with its argument unchanged, every
  counter at zero and, row by row, its result the first lane of what the row's tile stores.
-/
module

public import proofs.«01_k».proof.Proof.ScRows

@[expose] public section

noncomputable section

namespace Cert.ScKernelIdeal.Tile

open Cert.ScKernelIdeal Cert.ScKernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held wp_hlo_within unary_result' reshape_result')

variable {F : FTy → Type} [FloatOps F]

local notation "𝕄" => MT nD τ sig (HIx 1) (Elt F) ℕ UU ℕ

open Idealize.ShloMosaic.SparseCore.Cfg (ownBufs ownSems0 ownCells ownRefs mem_ownCells mem_ownRefs)

variable (m : (ℓ : Loc nD τ sig) → Buf (Elt F) ℓ) (ρ : Dev nD → PrngReg)

/-! ## What the handshakes carry -/

/-- SparseCore `c`'s share of `x`, and its tile `i`'s. -/
abbrev cq (c : ℕ) : PosShare TreeShare := Transfers.shareTokN fullShare c
abbrev tq (c i : ℕ) : PosShare TreeShare := Transfers.shareTokN (cq c) i

abbrev xSh (d : Dev nD) (q : PosShare TreeShare) : sProp 𝕄 := xLoc d ↦{q} m (xLoc d)
/-- A SparseCore's rows of the output. -/
abbrev oCore (d : Dev nD) (c : Fin 2) (f : Buf (Elt F) (oLoc d)) : sProp 𝕄 := bigSep Finset.univ fun i : Fin 16 => oRow d (c, i) f

/-- The output the call leaves, of the launch's `x`. -/
abbrev out (d : Dev nD) : Buf (Elt F) (oLoc d) := Gout (F := F) (m (xLoc d))

omit [FloatOps F] in
theorem nCore_zero : (K (F := F)).nCore 0 = 2 := rfl
omit [FloatOps F] in
theorem nSub_zero : (K (F := F)).nSub 0 = 16 := rfl

/-- The call takes, for each SparseCore, a share of `x` and the SparseCore's rows of the output, and hands back the share and
    the rows written; each tile its own share and row. -/
def P : (K (F := F)).Pay (nD := nD) (Val := Elt F) (Name := ℕ) (U := UU) where
  st := fun q d c => match q with | 0 => iprop(xSh m d (cq (Fin.cast nCore_zero c).val) ∗ oCore d (Fin.cast nCore_zero c) (m (oLoc d)))
  dn := fun q d c => match q with | 0 => iprop(xSh m d (cq (Fin.cast nCore_zero c).val) ∗ oCore d (Fin.cast nCore_zero c) (out m d))
  go := fun q d c i => match q with
    | 0 => iprop(xSh m d (tq (Fin.cast nCore_zero c).val (Fin.cast nSub_zero i).val) ∗ oRow d (Fin.cast nCore_zero c, Fin.cast nSub_zero i) (m (oLoc d)))
  td := fun q d c i => match q with
    | 0 => iprop(xSh m d (tq (Fin.cast nCore_zero c).val (Fin.cast nSub_zero i).val) ∗ oRow d (Fin.cast nCore_zero c, Fin.cast nSub_zero i) (out m d))
  x := fun _ _ => iprop(emp)

instance P_storable : (P (F := F) m).IsStorable where
  st q d c := match q with
    | 0 => (inferInstance : BI.Storable (upEmb : UEmb _ 𝕄) iprop(xSh m d (cq (Fin.cast nCore_zero c).val) ∗ oCore d (Fin.cast nCore_zero c) (m (oLoc d))))
  dn q d c := match q with
    | 0 => (inferInstance : BI.Storable (upEmb : UEmb _ 𝕄) iprop(xSh m d (cq (Fin.cast nCore_zero c).val) ∗ oCore d (Fin.cast nCore_zero c) (out m d)))
  go q d c i := match q with
    | 0 => (inferInstance : BI.Storable (upEmb : UEmb _ 𝕄)
      iprop(xSh m d (tq (Fin.cast nCore_zero c).val (Fin.cast nSub_zero i).val) ∗ oRow d (Fin.cast nCore_zero c, Fin.cast nSub_zero i) (m (oLoc d))))
  td q d c i := match q with
    | 0 => (inferInstance : BI.Storable (upEmb : UEmb _ 𝕄)
      iprop(xSh m d (tq (Fin.cast nCore_zero c).val (Fin.cast nSub_zero i).val) ∗ oRow d (Fin.cast nCore_zero c, Fin.cast nSub_zero i) (out m d)))

/-! ## A tile's own buffers and semaphores -/

section Tile

variable (d : Dev nD) (L : grid0.Coords)

omit [FloatOps F] in
theorem ownSems0_V :
    (ownSems0 (thr d L) : sProp 𝕄)
      = iprop(semVal (sem0 d L) 0 ∗ semVal (sem1 d L) 0 ∗ semVal (sem2 d L) 0
          ∗ bigSep ((((ownCells (thr d L)).erase (sem0 d L)).erase (sem1 d L)).erase (sem2 d L)) fun g => semVal g 0) := by
  unfold SparseCore.Cfg.ownSems0
  rw [SparseCore.bigSep_erase' ((mem_ownCells (g := sem0 d L)).mpr ⟨rfl, by
      show (SemLoc.dma cc0_scratch2.sem : SemLoc sig).isScoped .scVector = true; decide⟩),
    SparseCore.bigSep_erase' (Finset.mem_erase.mpr ⟨by simp [sem0, sem1]; decide, (mem_ownCells (g := sem1 d L)).mpr ⟨rfl, by
      show (SemLoc.dma cc0_scratch3.sem : SemLoc sig).isScoped .scVector = true; decide⟩⟩),
    SparseCore.bigSep_erase' (Finset.mem_erase.mpr ⟨by simp [sem1, sem2]; decide, Finset.mem_erase.mpr ⟨by simp [sem0, sem2]; decide,
      (mem_ownCells (g := sem2 d L)).mpr ⟨rfl, by show (SemLoc.dma cc0_scoped0.sem : SemLoc sig).isScoped .scVector = true; decide⟩⟩⟩)]

/-- A tile's reference to a buffer of its own. -/
abbrev own (b : Ref sig .scVector) : DevRef τ sig := (Proc.scVector (cV L) (jV L)).devRef b

omit [FloatOps F] in
/-- The tile's four scratch buffers, at some contents, and the rest of its own. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch4 ↦{fullShare} f) ∗ (∃ f, (thr d L).loc cc0_scratch5 ↦{fullShare} f)
          ∗ bigSep (((((ownRefs (τ := τ) (.scVector (cV L) (jV L))).erase (own L cc0_scratch0)).erase (own L cc0_scratch1)).erase
              (own L cc0_scratch4)).erase (own L cc0_scratch5)) fun b => iprop(∃ f, ((d, b) : Loc nD τ sig) ↦{fullShare} f)) := by
  have ne : ∀ {b b' : Ref sig .scVector}, b ≠ b' → own L b ≠ own L b' := fun h e => h (Proc.devRef_injective _ e)
  unfold SparseCore.Cfg.ownBufs
  refine (SparseCore.bigSep_erase' (SparseCore.Cfg.mem_ownRefs_of_owner (p := Proc.scVector (cV L) (jV L)) (b := own L cc0_scratch0) rfl)).trans ?_
  rw [SparseCore.bigSep_erase' (Finset.mem_erase.mpr ⟨ne (show (cc0_scratch1 : Ref sig .scVector) ≠ cc0_scratch0 by decide),
      SparseCore.Cfg.mem_ownRefs_of_owner (p := Proc.scVector (cV L) (jV L)) (b := own L cc0_scratch1) rfl⟩),
    SparseCore.bigSep_erase' (Finset.mem_erase.mpr ⟨ne (show (cc0_scratch4 : Ref sig .scVector) ≠ cc0_scratch1 by decide),
      Finset.mem_erase.mpr ⟨ne (show (cc0_scratch4 : Ref sig .scVector) ≠ cc0_scratch0 by decide),
      SparseCore.Cfg.mem_ownRefs_of_owner (p := Proc.scVector (cV L) (jV L)) (b := own L cc0_scratch4) rfl⟩⟩),
    SparseCore.bigSep_erase' (Finset.mem_erase.mpr ⟨ne (show (cc0_scratch5 : Ref sig .scVector) ≠ cc0_scratch4 by decide),
      Finset.mem_erase.mpr ⟨ne (show (cc0_scratch5 : Ref sig .scVector) ≠ cc0_scratch1 by decide),
      Finset.mem_erase.mpr ⟨ne (show (cc0_scratch5 : Ref sig .scVector) ≠ cc0_scratch0 by decide),
      SparseCore.Cfg.mem_ownRefs_of_owner (p := Proc.scVector (cV L) (jV L)) (b := own L cc0_scratch5) rfl⟩⟩⟩)]

omit [FloatOps F] in
theorem mem_b0 (i : S2x8192.Idx) : i ∈ (b0.view.set : Finset S2x8192.Idx) ↔ (i 0).val = 0 := by
  have e : (b0.view.set : Finset S2x8192.Idx) = (Rect.unit (s := S2x8192) ![0, 0] S1x8192.size inb_S2x8192_S1x8192_0_0).set := by
    show ((bV.view.slice (Rect.unit (s := S2x8192) ![0, 0] S1x8192.size inb_S2x8192_S1x8192_0_0)).reshape S8192 squeezes_S1x8192_S8192.numel_eq).set = _
    rw [View.set_reshape]
    exact View.set_slice_whole _ _
  rw [e, Rect.mem_set_unit]
  have h1 : (i 1).val < 8192 := (i 1).isLt
  constructor
  · intro h
    have h0 := h 0
    change 0 ≤ (i 0).val ∧ (i 0).val < 0 + 1 at h0
    omega
  · intro h a
    match a with
    | 0 => show 0 ≤ (i 0).val ∧ (i 0).val < 0 + 1; omega
    | 1 => show 0 ≤ (i 1).val ∧ (i 1).val < 0 + 8192; omega

omit [FloatOps F] in
theorem mem_b1 (i : S2x8192.Idx) : i ∈ (b1.view.set : Finset S2x8192.Idx) ↔ (i 0).val = 1 := by
  have e : (b1.view.set : Finset S2x8192.Idx) = (Rect.unit (s := S2x8192) ![1, 0] S1x8192.size inb_S2x8192_S1x8192_1_0).set := by
    show ((bV.view.slice (Rect.unit (s := S2x8192) ![1, 0] S1x8192.size inb_S2x8192_S1x8192_1_0)).reshape S8192 squeezes_S1x8192_S8192.numel_eq).set = _
    rw [View.set_reshape]
    exact View.set_slice_whole _ _
  rw [e, Rect.mem_set_unit]
  have h1 : (i 1).val < 8192 := (i 1).isLt
  constructor
  · intro h
    have h0 := h 0
    change 1 ≤ (i 0).val ∧ (i 0).val < 1 + 1 at h0
    omega
  · intro h a
    match a with
    | 0 => show 1 ≤ (i 0).val ∧ (i 0).val < 1 + 1; omega
    | 1 => show 0 ≤ (i 1).val ∧ (i 1).val < 0 + 8192; omega

omit [FloatOps F] in
theorem b_disjoint : Disjoint (b0.view.set : Finset S2x8192.Idx) b1.view.set := by
  rw [Finset.disjoint_left]
  intro i h h'
  rw [mem_b0] at h
  rw [mem_b1] at h'
  omega

omit [FloatOps F] in
theorem b_cover : (b0.view.set ∪ b1.view.set : Finset S2x8192.Idx) = Finset.univ := by
  ext i
  have h : (i 0).val < 2 := (i 0).isLt
  refine ⟨fun _ => Finset.mem_univ i, fun _ => Finset.mem_union.mpr ?_⟩
  rw [mem_b0, mem_b1]
  omega

omit [FloatOps F] in
/-- The staging buffer is its two rows. -/
theorem b_split (f : Buf (Elt F) ((thr d L).loc cc0_scratch0)) :
    ((thr d L).loc cc0_scratch0 ↦{fullShare} f : sProp 𝕄) ⊢ iprop(b0P d L f ∗ b1P d L f) := by
  refine (Entails.of_eq ?_).trans (pointsTo_union (ℓ := (thr d L).loc cc0_scratch0) b_disjoint).1
  rw [b_cover]
  try rfl
omit [FloatOps F] in
theorem b_join (f g : Buf (Elt F) ((thr d L).loc cc0_scratch0)) :
    iprop(b0P d L f ∗ b1P d L g) ⊢ (iprop(∃ h, (thr d L).loc cc0_scratch0 ↦{fullShare} h) : sProp 𝕄) := by
  refine (pointsTo_join (ℓ := (thr d L).loc cc0_scratch0) b_disjoint).trans ?_
  rw [b_cover]
  iintro H
  iexists _; iexact H

/-! ## The tile's obligation -/

theorem tile_body (p : Fin 2 × Fin 16) (hF : (K (F := F)).Facts) (O : CellTallies nD τ sig (HIx 1)) (W : Waits sig (HIx 1)) (hO : ∀ g, O g none = 0) :
    iprop(levAts (K (F := F)).L (K (F := F)).lev ∗ emp
        ∗ (xSh m d (tq p.1.val p.2.val) ∗ oRow d p (m (oLoc d)))
        ∗ scopedBufs (thr d (tile p)) ∗ scopedSems0 (thr d (tile p)) ∗ owes (thr d (tile p)) O W)
      ⊢ wp frame (wpE (defs₀ (F := F)) 𝒱₀ (thr d (tile p)) none) Set.univ
          (cc0__argmax_rows_sc (tile p) xV (Memref.isWhole_whole _) oV (Memref.isWhole_whole _) bV (Memref.isWhole_whole _) rV (Memref.isWhole_whole _)
            cc0_scratch2 cc0_scratch3 fV (Memref.isWhole_whole _) iV (Memref.isWhole_whole _) cc0_scoped0)
          fun _ => iprop((xSh m d (tq p.1.val p.2.val) ∗ oRow d p (out m d))
            ∗ scopedBufs (thr d (tile p)) ∗ scopedSems0 (thr d (tile p))
            ∗ ∃ W', ⌜∀ q ∈ W', q ∈ W ∨ q.2 = none⌝ ∗ owes (thr d (tile p)) O W') := by
  rw [(K (F := F)).scopedBufs_V hF d (cV (tile p)) (jV (tile p)), SparseCore.Cfg.scopedSems0_V (Val := Elt F) d (cV (tile p)) (jV (tile p)),
    ownSems0_V, ownBufs_V]
  iintro ⟨#Hlv, -, ⟨Hx, Ho⟩, ⟨⟨%fb, Hb⟩, ⟨%fr, Hr⟩, ⟨%ff, Hf⟩, ⟨%fi, Hi⟩, Hbufs⟩, ⟨Hs0, Hs1, Hs2, Hsems⟩, HO⟩
  ihave Hmw := (show levAts (K (F := F)).L (K (F := F)).lev ⊢ Transfers.MayWaits (thr d (tile p)) (default : HIx 1) O from
    (K (F := F)).mayWaits_none (thr := thr d (tile p)) hO) $$ Hlv
  ihave Hb' := (b_split d (tile p) fb) $$ Hb
  icases Hb' with ⟨Hb0, Hb1⟩
  ihave Hx' := (pointsTo_share (ℓ := xLoc d) (I := Finset.univ) (f := m (xLoc d)) (PosShare.mem_left_op_right (tq p.1.val p.2.val))).1 $$ Hx
  icases Hx' with ⟨Hxl, Hx0⟩
  ihave Hx' := (pointsTo_share (ℓ := xLoc d) (I := Finset.univ) (f := m (xLoc d)) (PosShare.mem_left_op_right (tq p.1.val p.2.val).left)).1 $$ Hxl
  icases Hx' with ⟨Hxr, Hx1⟩
  iapply (wp_wand_r frame _ _)
  isplitl [Hmw Hx0 Hx1 Ho Hb0 Hb1 Hr Hf Hi Hs0 Hs1 Hs2 HO]
  · iapply (task d (tile p) (tq p.1.val p.2.val) (m (xLoc d)) (m (oLoc d)) fb fb fr ff fi O W)
    isplitl [Hmw]; · iexact Hmw
    isplitl [Hx0 Hx1 Ho]
    · isplitl [Hx0]; · iexact Hx0
      isplitl [Hx1]; · iexact Hx1
      iexact Ho
    isplitl [Hb0 Hb1 Hr Hf Hi]
    · isplitl [Hb0]; · iexact Hb0
      isplitl [Hb1]; · iexact Hb1
      isplitl [Hr]; · iexact Hr
      isplitl [Hf]; · iexact Hf
      iexact Hi
    isplitl [Hs0 Hs1 Hs2]
    · isplitl [Hs0]; · iexact Hs0
      isplitl [Hs1]; · iexact Hs1
      iexact Hs2
    iexact HO
  iintro %a ⟨⟨Hx0, Hx1, Ho⟩, ⟨⟨%g0, Hb0⟩, ⟨%g1, Hb1⟩, ⟨%gr, Hr⟩, ⟨%gf, Hf⟩, ⟨%gi, Hi⟩⟩, ⟨Hs0, Hs1, Hs2⟩, HW⟩
  ihave Hb := (b_join d (tile p) g0 g1) $$ [Hb0 Hb1]; · isplitl [Hb0] <;> iassumption
  isplitl [Hxr Hx0 Hx1 Ho]
  · isplitl [Hxr Hx0 Hx1]
    · iapply (pointsTo_share (ℓ := xLoc d) (I := Finset.univ) (f := m (xLoc d)) (PosShare.mem_left_op_right (tq p.1.val p.2.val))).2
      isplitl [Hxr Hx1]
      · iapply (pointsTo_share (ℓ := xLoc d) (I := Finset.univ) (f := m (xLoc d)) (PosShare.mem_left_op_right (tq p.1.val p.2.val).left)).2
        isplitl [Hxr]; · iexact Hxr
        iexact Hx1
      · iexact Hx0
    · iapply (Entails.of_eq (pointsTo_congr (row_written (F := F) d (tile p) (m (xLoc d)) (m (oLoc d)))))
      iexact Ho
  isplitl [Hb Hr Hf Hi Hbufs]
  · isplitl [Hb]; · iexact Hb
    isplitl [Hr]; · iexists _; iexact Hr
    isplitl [Hf]; · iexists _; iexact Hf
    isplitl [Hi]; · iexists _; iexact Hi
    iexact Hbufs
  isplitl [Hs0 Hs1 Hs2 Hsems]
  · isplitl [Hs0]; · iexact Hs0
    isplitl [Hs1]; · iexact Hs1
    isplitl [Hs2]; · iexact Hs2
    iexact Hsems
  iexact HW

end Tile

theorem defs₀_vector (c : Fin τ.nSC) (s : Fin τ.nSub) :
    defs₀ (F := F) (.scVector c s) 0 ()
      = SparseCore.onTile hcore0 hsub0 (fun c s => cc0__argmax_rows_sc (coordsV c s) xV (Memref.isWhole_whole _) oV (Memref.isWhole_whole _)
          bV (Memref.isWhole_whole _) rV (Memref.isWhole_whole _) cc0_scratch2 cc0_scratch3 fV (Memref.isWhole_whole _) iV (Memref.isWhole_whole _)
          cc0_scoped0) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (⟨_, hci.1⟩, ⟨_, hci.2⟩) hF O W hO).trans (wp_mono frame _ _ fun _ => obl_post)

/-! ## A SparseCore's operands dealt to its tiles, and the results gathered -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A share of `x` is what remains of it and its tiles' shares. -/
theorem xSh_deal (d : Dev nD) (q : PosShare TreeShare) (n : ℕ) :
    (xSh m d q : sProp 𝕄) ⊣⊢ iprop(xSh m d (Transfers.shareDrop q n) ∗ bigSep Finset.univ fun i : Fin n => xSh m d (Transfers.shareTokN q i.val)) :=
  Transfers.pointsTo_toks (ℓ := xLoc d) (S := Finset.univ) (f := m (xLoc d)) q n

theorem vecSplit : (K (F := F)).VecSplit' (P m) 0 := by
  intro d c
  show iprop(xSh m d (cq (Fin.cast nCore_zero c).val) ∗ oCore d (Fin.cast nCore_zero c) (m (oLoc d))) ⊢ |={Set.univ}=> iprop(
      (bigSep Finset.univ fun i : Fin ((K (F := F)).nSub 0) =>
        iprop(xSh m d (tq (Fin.cast nCore_zero c).val (Fin.cast nSub_zero i).val) ∗ oRow d (Fin.cast nCore_zero c, Fin.cast nSub_zero i) (m (oLoc d))))
      ∗ ((bigSep Finset.univ fun i : Fin ((K (F := F)).nSub 0) =>
          iprop(xSh m d (tq (Fin.cast nCore_zero c).val (Fin.cast nSub_zero i).val) ∗ oRow d (Fin.cast nCore_zero c, Fin.cast nSub_zero i) (out m d)))
          -∗ iprop(xSh m d (cq (Fin.cast nCore_zero c).val) ∗ oCore d (Fin.cast nCore_zero c) (out m d))))
  generalize Fin.cast nCore_zero c = c'
  rw [bigSep_tasks (F := F) (fun i => iprop(xSh m d (tq c'.val i.val) ∗ oRow d (c', i) (m (oLoc d)))),
    bigSep_tasks (F := F) (fun i => iprop(xSh m d (tq c'.val i.val) ∗ oRow d (c', i) (out m d))), bigSep_sep', bigSep_sep']
  iintro ⟨Hx, Ho⟩
  ihave Hx' := (xSh_deal m d (cq c'.val) 16).1 $$ Hx
  icases Hx' with ⟨Hrest, Hx⟩
  imodintro
  isplitl [Hx Ho]
  · isplitl [Hx]; · iexact Hx
    iexact Ho
  iintro ⟨Hx, Ho⟩
  isplitl [Hrest Hx]
  · iapply (xSh_deal m d (cq c'.val) 16).2
    isplitl [Hrest]; · iexact Hrest
    iexact Hx
  iexact Ho

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun t : Thread nD τ => bigSep Finset.univ fun q : Fin 1 => (P (F := F) m).x q t) = bigSep Finset.univ fun _ => iprop(emp) from
    bigSep_congr fun _ _ => bigSep_univ_of_subsingleton (0 : Fin 1), bigSep_emp']
  iempintro

/-! ## @main on the TensorCore -/

abbrev x' : DevRef τ sig := Proc.devRef .tc (main_arg0 : Ref sig .tc)
abbrev o' : DevRef τ sig := Proc.devRef .tc (main_v0 : Ref sig .tc)
abbrev s' : DevRef τ sig := Proc.devRef .tc (main_v1 : Ref sig .tc)
abbrev r' : DevRef τ sig := Proc.devRef .tc (main_v2 : Ref sig .tc)
/-- The two host operations after the call: the first column, then its single axis. -/
abbrev opSlice : HloOp τ sig (Elt F) := StableHlo.unary main_v0 main_v1
  ((extractStridedSlice S32x1 ![0, 0] · slices_S32x16_S32x1_0_0) : (⟨S32x16, .i32⟩ : BufTy).Contents (Elt F) → (⟨S32x1, .i32⟩ : BufTy).Contents (Elt F))
abbrev opFlat : HloOp τ sig (Elt F) := StableHlo.reshape main_v1 main_v2 (rfl : (.i32 : EltTy) = .i32) shapeCasts_S32x1_S32

/-- The TensorCore's arrays. -/
abbrev S4 : Finset (DevRef τ sig) := {x', o', s', r'}

omit [FloatOps F] in
theorem held_S4 (d : Dev nD) (W : Valuation τ sig (Elt F)) :
    (held (T d) S4 W : sProp 𝕄) = iprop((xLoc d ↦{fullShare} W x') ∗ (oLoc d ↦{fullShare} W o')
      ∗ ((SparseCore.T d).loc main_v1 ↦{fullShare} W s') ∗ (SparseCore.T d).loc main_v2 ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0)
      ∗ ((SparseCore.T d).loc main_v1 ↦{fullShare} W main_v1) ∗ (SparseCore.T d).loc main_v2 ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The arrays' contents at launch, after the call, and after each of the two host operations. -/
def V0 (d : Dev nD) : Valuation τ sig (Elt F) := fun b => m (d, b)
def V1 (d : Dev nD) : Valuation τ sig (Elt F) := Function.update (V0 m d) o' (out m d)
def V2 (d : Dev nD) : Valuation τ sig (Elt F) := (opSlice (F := F)).result (V1 m d)
def V3 (d : Dev nD) : Valuation τ sig (Elt F) := (opFlat (F := F)).result (V2 m d)

theorem V1_x (d : Dev nD) : V1 m d x' = m (xLoc d) := Function.update_of_ne (show x' ≠ o' by decide) _ _
theorem V1_o (d : Dev nD) : V1 m d o' = out m d := Function.update_self _ _ _
theorem V1_s (d : Dev nD) : V1 m d s' = V0 m d s' := Function.update_of_ne (show s' ≠ o' by decide) _ _
theorem V1_r (d : Dev nD) : V1 m d r' = V0 m d r' := Function.update_of_ne (show r' ≠ o' by decide) _ _
theorem V3_x (d : Dev nD) : V3 m d x' = m (xLoc d) :=
  ((opFlat (F := F)).result_of_not_mem (V2 m d) (b := x') (show x' ∉ ({r'} : Finset (DevRef τ sig)) by decide)).trans
    (((opSlice (F := F)).result_of_not_mem (V1 m d) (b := x') (show x' ∉ ({s'} : Finset (DevRef τ sig)) by decide)).trans (V1_x m d))

/-- The result: entry `r` is the first lane of row `r`. -/
abbrev res (d : Dev nD) : S32.Idx → BitVec 32 := fun j => Gout (F := F) (m (xLoc d)) (oIx (j 0).val 0)

omit [FloatOps F] in
/-- The first column of a `32 × 16` array, laid flat. -/
theorem column_flat (g : S32x16.Idx → BitVec 32) (j : S32.Idx) :
    shapeCast S32 (extractStridedSlice S32x1 ![0, 0] g slices_S32x16_S32x1_0_0) shapeCasts_S32x1_S32 j = g (oIx (j 0).val 0) := by
  have hj : (j 0).val < 32 := (j 0).isLt
  let k : S32x1.Idx := fun a => match a with
    | 0 => ⟨(j 0).val, hj⟩
    | 1 => ⟨0, by decide⟩
  refine (shapeCast_apply _ _ j k ?_).trans ?_
  · rw [Shape.rowMajor_val_two, Shape.rowMajor_val_one]
    show (j 0).val * 1 + 0 = (j 0).val
    omega
  · refine extractStridedSlice_apply _ g _ k _ fun a => ?_
    match a with
    | 0 => show (j 0).val % 32 = 0 + (j 0).val; omega
    | 1 => rfl

theorem V3_r (d : Dev nD) : (V3 m d r' : S32.Idx → BitVec 32) = res m d := by
  have e2 : (V2 m d s' : S32x1.Idx → BitVec 32) = extractStridedSlice S32x1 ![0, 0] (out m d : S32x16.Idx → BitVec 32) slices_S32x16_S32x1_0_0 := by
    rw [← V1_o m d]
    exact unary_result' (F := V1 m d) ..
  have e3 : (V3 m d r' : S32.Idx → BitVec 32) = shapeCast S32 (V2 m d s' : S32x1.Idx → BitVec 32) shapeCasts_S32x1_S32 := reshape_result' (F := V2 m d) ..
  rw [e3, e2]
  exact funext fun j => column_flat (out m d) j

theorem unscoped_held (d : Dev nD) : (unscopedBufs d (fun b => m ((SparseCore.T d).loc b)) : sProp 𝕄) = held (T d) S4 (V0 m d) := by
  rw [unscopedBufs_eq, held_S4]; rfl

/-- What the call takes for the two SparseCores, and what it hands back. -/
theorem st0_eq (d : Dev nD) : (bigSep Finset.univ fun c : Fin ((K (F := F)).nCore 0) => (P m).st 0 d c)
    = iprop((bigSep Finset.univ fun c : Fin 2 => xSh m d (cq c.val)) ∗ oLoc d ↦{fullShare} m (oLoc d)) := by
  show (bigSep (Finset.univ : Finset (Fin 2)) fun c => iprop(xSh m d (cq c.val) ∗ oCore d c (m (oLoc d)))) = _
  rw [bigSep_sep', oPts_rows]
theorem dn0_eq (d : Dev nD) : (bigSep Finset.univ fun c : Fin ((K (F := F)).nCore 0) => (P m).dn 0 d c)
    = iprop((bigSep Finset.univ fun c : Fin 2 => xSh m d (cq c.val)) ∗ oLoc d ↦{fullShare} out m d) := by
  show (bigSep (Finset.univ : Finset (Fin 2)) fun c => iprop(xSh m d (cq c.val) ∗ oCore d c (out m d))) = _
  rw [bigSep_sep', oPts_rows]

omit [FloatOps F] in
theorem hSlice : (opSlice (F := F)).bufs ⊆ S4 := show ({o', s'} : Finset (DevRef τ sig)) ⊆ S4 by decide
omit [FloatOps F] in
theorem hFlat : (opFlat (F := F)).bufs ⊆ S4 := show ({s', r'} : Finset (DevRef τ sig)) ⊆ S4 by decide

/-- What @main leaves the claim: `x` at its launch contents, the result at `res`. -/
abbrev FIN (d : Dev nD) : sProp 𝕄 := iprop((xLoc d ↦{fullShare} V3 m d x') ∗ (SparseCore.T d).loc main_v2 ↦{fullShare} V3 m d r')

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  ihave Hh := (Entails.of_eq (held_S4 (F := F) d _)) $$ Hheld
  icases Hh with ⟨Hx, Ho, Hs, Hr⟩
  ihave Hx0 := (Entails.of_eq (show (xLoc d ↦{fullShare} V0 m d x' : sProp 𝕄) = xSh m d fullShare from rfl)) $$ Hx
  ihave Hx' := (xSh_deal m d fullShare 2).1 $$ Hx0
  icases Hx' with ⟨Hrest, Hx⟩
  iapply ((K (F := F)).wp_run (D (F := F)) 𝒱 (EH := EH) (P := P m) κ d 0) $$ [Hst Hx Ho Hrest Hs Hb Hr Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨Hx, Ho⟩
  ihave Hx' := (xSh_deal m d fullShare 2).2 $$ [Hrest Hx]; · isplitl [Hrest] <;> iassumption
  iapply (wp_hlo_within 𝒱 (SparseCore.T d) none Set.univ (op := opSlice) (S := S4) hSlice (V := V1 m d)) $$ [Hb Hx' Ho Hs Hr]
  · isplitl [Hb]; · iexact Hb
    rw [held_S4, V1_x, V1_o, V1_s, V1_r]
    isplitl [Hx']; · iexact Hx'
    isplitl [Ho]; · iexact Ho
    isplitl [Hs]; · iexact Hs
    iexact Hr
  iintro ⟨Hb, Hheld⟩
  rw [wp_ret]; imodintro
  iapply (wp_hlo_within 𝒱 (SparseCore.T d) none Set.univ (op := opFlat) (S := S4) hFlat (V := V2 m d)) $$ [Hb Hheld]
  · isplitl [Hb]; · iexact Hb
    iexact Hheld
  iintro ⟨Hb, Hheld⟩
  ihave Hh := (Entails.of_eq (held_S4 (F := F) d ((opFlat (F := F)).result (V2 m d)))) $$ Hheld
  icases Hh with ⟨Hx, -, -, Hr⟩
  rw [wp_ret]; imodintro; imodintro
  isplitl [Hst]; · iexact Hst
  isplitr [Hb Hts]
  · isplitl [Hx]; · iexact Hx
    iexact Hr
  isplitl [Hb] <;> iassumption

def fq (d : Dev nD) (st : Phys nD τ sig (Elt F)) : Prop :=
  st.mem.mem (xLoc d) = m (xLoc d) ∧ (st.mem.mem ((SparseCore.T d).loc main_v2) : S32.Idx → BitVec 32) = res m d

set_option maxRecDepth 16384 in
theorem hfin (d : Dev nD) (st : Phys nD τ sig (Elt F)) : iprop(FIN m d ∗ SI st) ⊢ (⌜fq m d st⌝ : sProp 𝕄) := by
  iintro ⟨⟨Hx, Hr⟩, HSI⟩
  ihave H := (persistent_entails_right (SI_pointsTo_agree (st := st) (ℓ := xLoc d) (I := Finset.univ) (q := fullShare) (f := V3 m d x'))) $$ [HSI Hx]
  · isplitl [HSI] <;> iassumption
  icases H with ⟨%h1, HSI, -⟩
  ihave H := (SI_pointsTo_agree (st := st) (ℓ := (SparseCore.T d).loc main_v2) (I := Finset.univ) (q := fullShare) (f := V3 m d r')) $$ [HSI Hr]
  · isplitl [HSI] <;> iassumption
  icases H with %h2
  ipureintro
  exact ⟨(funext fun i => h1 i (Finset.mem_univ i)).trans (V3_x m d), (funext fun i => h2 i (Finset.mem_univ i)).trans (V3_r m d)⟩

/-! ## The program's run -/

def QC : PUnit × MemSt nD τ sig (Elt F) → Prop := fun r =>
  (∀ c : Dev nD, r.2.mem (xLoc c) = m (xLoc c) ∧ (r.2.mem ((SparseCore.T c).loc main_v2) : S32.Idx → BitVec 32) = res m c) ∧ r.2.sem = fun _ => 0

/-- From any memory the program ends, its argument unchanged, its result at `res` and every counter at zero. -/
theorem run_main [∀ e, Nonempty (Elt F e)] :
    θ_run (Cert.ScKernelIdeal.defs (F := F)) (Cert.ScKernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.ScKernelIdeal.Tile

end
-- ==== Proof.ScValue.lean ====
/-
  What a tile's stored row means at the extended reals (hand-written): its first lane is the first column at which the row is
  greatest. Slot `u` of lane `l` runs over the columns `128·j + 16·u + l`; its maximum with its column is a candidate over
  them, the eight slots' are merged in pairs, and the exchanges among the lanes take the greatest value and the least column
  that carries it.
-/
module

public import proofs.«01_k».proof.Proof.ArgMax
public import proofs.«01_k».proof.Proof.ScSpec

@[expose] public section

noncomputable section

namespace Cert.ScKernelIdeal.Tile

open Cert.ScKernelIdeal Cert.ScKernelIdeal.Gen
open Idealize.ShloMosaic Cert.ArgMax

/-! ## The exchange among the lanes -/

section Exchange

variable {α : Type} (op : (S16.Idx → α) → (S16.Idx → α) → S16.Idx → α)

theorem lane_val (a : ℕ) : ((lane a) 0).val = a % 16 := rfl
theorem lane_eq (l : S16.Idx) : lane (l 0).val = l := by
  funext a
  match a with
  | 0 =>
    have h : (l 0).val < 16 := (l 0).isLt
    exact Fin.ext (Nat.mod_eq_of_lt h)

theorem xl_lane (k : ℕ) (f : S16.Idx → α) (a : Fin 16) : xl k f (lane a.val) = f (lane (a.val ^^^ k)) := by
  show f (lane (((lane a.val) 0).val ^^^ k)) = _
  rw [lane_val, Nat.mod_eq_of_lt a.isLt]

/-- If each lane of `op` is one of its operands', so is each lane of the exchange one of the lanes'. -/
theorem meet_mem (h : ∀ x y l, op x y l = x l ∨ op x y l = y l) (k : ℕ) (x : S16.Idx → α) (l : S16.Idx) : ∃ l', meet op k x l = x l' :=
  (h x (xl k x) l).elim (fun e => ⟨l, e⟩) fun e => ⟨_, e⟩

theorem meetAll_mem (h : ∀ x y l, op x y l = x l ∨ op x y l = y l) (x : S16.Idx → α) (l : S16.Idx) : ∃ l', meetAll op x l = x l' := by
  obtain ⟨l₁, e₁⟩ := meet_mem op h 8 (meet op 4 (meet op 2 (meet op 1 x))) l
  obtain ⟨l₂, e₂⟩ := meet_mem op h 4 (meet op 2 (meet op 1 x)) l₁
  obtain ⟨l₃, e₃⟩ := meet_mem op h 2 (meet op 1 x) l₂
  obtain ⟨l₄, e₄⟩ := meet_mem op h 1 x l₃
  exact ⟨l₄, e₁.trans (e₂.trans (e₃.trans e₄))⟩

variable (R : α → α → Prop)

/-- If each lane of `op` bounds both operands', a round bounds the lane and the lane at its distance. -/
theorem meet_le (h : ∀ x y l, R (x l) (op x y l) ∧ R (y l) (op x y l)) (k : ℕ) (x : S16.Idx → α) (a d : Fin 16) :
    R (x (lane (a.val ^^^ (d.val &&& k)))) (meet op k x (lane a.val)) ∨ ¬ (d.val &&& k = 0 ∨ d.val &&& k = k) := by
  by_cases hd : d.val &&& k = 0 ∨ d.val &&& k = k
  · refine Or.inl ?_
    rcases hd with e | e <;> rw [e]
    · rw [Nat.xor_zero]; exact (h x (xl k x) (lane a.val)).1
    · exact xl_lane k x a ▸ (h x (xl k x) (lane a.val)).2
  · exact Or.inr hd

theorem bits_one : ∀ d : Fin 16, d.val &&& 1 = 0 ∨ d.val &&& 1 = 1 := by decide
theorem bits_two : ∀ d : Fin 16, d.val &&& 2 = 0 ∨ d.val &&& 2 = 2 := by decide
theorem bits_four : ∀ d : Fin 16, d.val &&& 4 = 0 ∨ d.val &&& 4 = 4 := by decide
theorem bits_eight : ∀ d : Fin 16, d.val &&& 8 = 0 ∨ d.val &&& 8 = 8 := by decide

/-- A lane moved by distance `d`. -/
def moved (a d : Fin 16) (k : ℕ) : Fin 16 := ⟨(a.val ^^^ (d.val &&& k)) % 16, Nat.mod_lt _ (by decide)⟩
theorem lane_moved (a d : Fin 16) (k : ℕ) : lane (moved a d k).val = lane (a.val ^^^ (d.val &&& k)) := by
  funext i
  match i with
  | 0 => exact Fin.ext (Nat.mod_mod _ 16)
theorem reach : ∀ a b : Fin 16, moved (moved (moved (moved a (a ^^^ b) 8) (a ^^^ b) 4) (a ^^^ b) 2) (a ^^^ b) 1 = b := by decide

/-- After the four rounds every lane bounds all sixteen. -/
theorem meetAll_le (h : ∀ x y l, R (x l) (op x y l) ∧ R (y l) (op x y l)) (trans : ∀ {a b c}, R a b → R b c → R a c)
    (x : S16.Idx → α) (l l' : S16.Idx) : R (x l') (meetAll op x l) := by
  have key : ∀ a b : Fin 16, R (x (lane b.val)) (meetAll op x (lane a.val)) := fun a b => by
    have h8 := (meet_le op R h 8 (meet op 4 (meet op 2 (meet op 1 x))) a (a ^^^ b)).resolve_right (not_not_intro (bits_eight _))
    rw [← lane_moved] at h8
    have h4 := (meet_le op R h 4 (meet op 2 (meet op 1 x)) (moved a (a ^^^ b) 8) (a ^^^ b)).resolve_right (not_not_intro (bits_four _))
    rw [← lane_moved] at h4
    have h2 := (meet_le op R h 2 (meet op 1 x) (moved (moved a (a ^^^ b) 8) (a ^^^ b) 4) (a ^^^ b)).resolve_right (not_not_intro (bits_two _))
    rw [← lane_moved] at h2
    have h1 := (meet_le op R h 1 x (moved (moved (moved a (a ^^^ b) 8) (a ^^^ b) 4) (a ^^^ b) 2) (a ^^^ b)).resolve_right (not_not_intro (bits_one _))
    rw [← lane_moved, reach] at h1
    exact trans h1 (trans h2 (trans h4 h8))
  have := key ⟨(l 0).val, (l 0).isLt⟩ ⟨(l' 0).val, (l' 0).isLt⟩
  rwa [lane_eq, lane_eq] at this

end Exchange

/-- The greatest of the lanes' values, in every lane. -/
theorem meetAll_max (v : S16.Idx → EReal) :
    ∃ m, (∀ l, meetAll (maximumf (F := Ideal) (φ := .f32)) v l = m) ∧ (∀ l, v l ≤ m) ∧ ∃ l, v l = m := by
  have hle : ∀ l l', v l' ≤ meetAll (maximumf (F := Ideal) (φ := .f32)) v l :=
    meetAll_le _ (fun a b : EReal => a ≤ b) (fun x y l => ⟨le_max_left (x l) (y l), le_max_right (x l) (y l)⟩) (fun h h' => le_trans h h') v
  have hmem : ∀ l, ∃ l', meetAll (maximumf (F := Ideal) (φ := .f32)) v l = v l' :=
    meetAll_mem _ (fun x y l => max_choice (x l) (y l)) v
  refine ⟨meetAll (maximumf (F := Ideal) (φ := .f32)) v (lane 0), fun l => ?_, hle (lane 0), (hmem (lane 0)).imp fun _ e => e.symm⟩
  obtain ⟨l₁, e₁⟩ := hmem l
  obtain ⟨l₂, e₂⟩ := hmem (lane 0)
  exact le_antisymm (e₁ ▸ hle (lane 0) l₁) (e₂ ▸ hle l l₂)

/-- The least of the lanes' words below 2³¹. -/
theorem meetAll_min (p : S16.Idx → BitVec 32) (hp : ∀ l, (p l).toNat < 2 ^ 31) (l : S16.Idx) :
    (∀ l', (meetAll minsi p l).toNat ≤ (p l').toNat) ∧ ∃ l', meetAll minsi p l = p l' := by
  have hop : ∀ a b : BitVec 32, IntOp.minsi a b = a ∨ IntOp.minsi a b = b := fun a b => by unfold IntOp.minsi; split <;> simp
  have hmem : ∃ l', meetAll minsi p l = p l' := meetAll_mem minsi (fun x y l => hop (x l) (y l)) p l
  refine ⟨fun l' => ?_, hmem⟩
  have hle := meetAll_le minsi (fun a b : BitVec 32 => b.toInt ≤ a.toInt) (fun x y l => by
    show (IntOp.minsi (x l) (y l)).toInt ≤ (x l).toInt ∧ (IntOp.minsi (x l) (y l)).toInt ≤ (y l).toInt
    unfold IntOp.minsi
    simp only [BitVec.slt_eq_decide, decide_eq_true_eq, BitVec.sle_eq_decide]
    split <;> omega) (fun h h' => le_trans h' h) p l l'
  obtain ⟨l₁, e⟩ := hmem
  rw [e] at hle ⊢
  have h1 := hp l₁
  have h2 := hp l'
  rw [BitVec.toInt_eq_toNat_of_lt (by omega), BitVec.toInt_eq_toNat_of_lt (by omega)] at hle
  omega

/-! ## The slots -/

theorem negInf : (Scalar.ofBits .f32 0xFF800000#32 : Ideal .f32) = (⊥ : EReal) := by
  show Ideal.ofBits .f32 0xFF800000#32 = ⊥
  simp [Ideal.ofBits, Ideal.ieee]

/-- The column that slot `u` of lane `l` meets at step `j`. -/
def pos (u l j : ℕ) : ℕ := 128 * j + 16 * u + l

theorem pos_mono (u l : ℕ) : StrictMono (pos u l) := fun a b h => by unfold pos; omega

theorem slot_at (w : ℕ → EReal) (u : ℕ) (l : S16.Idx) : ∀ T, T ≤ 256 →
    Slot (fun j => w (pos u (l 0).val j)) T (slotV (F := Ideal) (seen (F := Ideal) w u) T l) (slotI (F := Ideal) (seen (F := Ideal) w u) T l)
  | 0, _ => by
    show Slot _ 0 (Scalar.ofBits .f32 0xFF800000#32 : Ideal .f32) 0#32
    rw [negInf]
    exact Slot.zero _
  | T + 1, h => (slot_at w u l T (by omega)).succ rfl (by
      show (BitVec.ofNat 32 T).toNat = T
      simp only [BitVec.toNat_ofNat]; omega)

/-- The columns of slot `u` of lane `l`. -/
def cols (u l : ℕ) : Set ℕ := {k | ∃ j < 256, k = pos u l j}

theorem lanes_apply (l : S16.Idx) : lanes l = BitVec.ofNat 32 (l 0).val := by
  unfold lanes
  rw [iota_single_apply]

/-- A slot's maximum with its column is a candidate over the slot's columns. -/
theorem cand_slot (w : ℕ → EReal) {u : ℕ} (hu : u < 8) (l : S16.Idx) :
    Cand w (cols u (l 0).val) (slotV (F := Ideal) (seen (F := Ideal) w u) 256 l)
      (column (BitVec.ofNat 32 u) (slotI (F := Ideal) (seen (F := Ideal) w u) 256) l) := by
  have h := slot_at w u l 256 le_rfl
  generalize slotV (F := Ideal) (seen (F := Ideal) w u) 256 l = v at h ⊢
  have e : column (BitVec.ofNat 32 u) (slotI (F := Ideal) (seen (F := Ideal) w u) 256) l
      = (slotI (F := Ideal) (seen (F := Ideal) w u) 256 l * 8#32 + BitVec.ofNat 32 u) * 16#32 + lanes l := rfl
  rw [e, lanes_apply]
  generalize slotI (F := Ideal) (seen (F := Ideal) w u) 256 l = s at h ⊢
  have hs : s.toNat < 256 := by
    rcases h.met with e | ⟨-, e⟩
    · exact e.1
    · rw [e]; decide
  have hl : (l 0).val < 16 := (l 0).isLt
  have ha : ((s * 8#32 + BitVec.ofNat 32 u) * 16#32 + BitVec.ofNat 32 (l 0).val).toNat = pos u (l 0).val s.toNat := by
    unfold pos
    simp only [BitVec.toNat_add, BitVec.toNat_mul, BitVec.toNat_ofNat]
    omega
  refine ⟨h.first (by decide) (fun j _ => rfl) (pos_mono u _) ha, ?_⟩
  rw [ha]; unfold pos; omega

/-- The columns a lane has met in all. -/
def met (l : ℕ) : Set ℕ := ((cols 0 l ∪ cols 1 l) ∪ (cols 2 l ∪ cols 3 l)) ∪ ((cols 4 l ∪ cols 5 l) ∪ (cols 6 l ∪ cols 7 l))

theorem cand_pair (w : ℕ → EReal) {u : ℕ} (hu : u + 1 < 8) (l : S16.Idx) :
    Cand w (cols u (l 0).val ∪ cols (u + 1) (l 0).val) (pairV (F := Ideal) w u l) (pairI (F := Ideal) w u l) :=
  (cand_slot w (by omega) l).merge (cand_slot w hu l)

theorem cand_last (w : ℕ → EReal) (l : S16.Idx) : Cand w (met (l 0).val) (lastV (F := Ideal) w l) (lastI (F := Ideal) w l) :=
  ((cand_pair w (u := 0) (by decide) l).merge (cand_pair w (u := 2) (by decide) l)).merge
    ((cand_pair w (u := 4) (by decide) l).merge (cand_pair w (u := 6) (by decide) l))

/-- The lanes have met every column. -/
theorem met_all {k : ℕ} (hk : k < 32768) : ∃ l : S16.Idx, k ∈ met (l 0).val := by
  refine ⟨lane (k % 16), ?_⟩
  have el : ((lane (k % 16)) 0).val = k % 16 := Nat.mod_mod k 16
  rw [el]
  have h8 : k / 16 % 8 = 0 ∨ k / 16 % 8 = 1 ∨ k / 16 % 8 = 2 ∨ k / 16 % 8 = 3 ∨ k / 16 % 8 = 4 ∨ k / 16 % 8 = 5
      ∨ k / 16 % 8 = 6 ∨ k / 16 % 8 = 7 := by omega
  have hm : ∀ u, k / 16 % 8 = u → k ∈ cols u (k % 16) := fun u hu => ⟨k / 128, by omega, by unfold pos; omega⟩
  rcases h8 with h | h | h | h | h | h | h | h
  · exact Or.inl (Or.inl (Or.inl (hm _ h)))
  · exact Or.inl (Or.inl (Or.inr (hm _ h)))
  · exact Or.inl (Or.inr (Or.inl (hm _ h)))
  · exact Or.inl (Or.inr (Or.inr (hm _ h)))
  · exact Or.inr (Or.inl (Or.inl (hm _ h)))
  · exact Or.inr (Or.inl (Or.inr (hm _ h)))
  · exact Or.inr (Or.inr (Or.inl (hm _ h)))
  · exact Or.inr (Or.inr (Or.inr (hm _ h)))

theorem cols_lt {u l k : ℕ} (hu : u < 8) (hl : l < 16) (h : k ∈ cols u l) : k < 32768 := by
  obtain ⟨j, hj, rfl⟩ := h
  unfold pos; omega

theorem met_lt {l : S16.Idx} {k : ℕ} (h : k ∈ met (l 0).val) : k < 32768 := by
  have hl : (l 0).val < 16 := (l 0).isLt
  rcases h with ((h | h) | (h | h)) | ((h | h) | (h | h)) <;> exact cols_lt (by decide) hl h

theorem select_one (a b : BitVec 32) : Scalar.select 1#1 a b = a := rfl
theorem lane_zero : IntOp.cmpi .eq (lanes (lane 0)) 0#32 = 1#1 := by
  rw [lanes_apply]
  rfl

/-- Lane 0 of what is stored is the least of the words. -/
theorem stored_zero (p : S16.Idx → BitVec 32) : stored p (lane 0) = meetAll minsi p (lane 0) := by
  generalize e : meetAll minsi p (lane 0) = q
  unfold stored
  show Scalar.select (IntOp.cmpi .eq (lanes (lane 0)) 0#32) (meetAll minsi p (lane 0)) 0#32 = q
  rw [lane_zero, e, select_one]

/-- THE ROW: lane 0 of what the tile stores is the first column at which the row is greatest. -/
theorem tileOut_first (w : ℕ → EReal) : ∃ m, First w {k | k < 32768} m (tileOut (F := Ideal) w (lane 0)).toNat := by
  have e : {k | k < 32768} = {k | ∃ l : S16.Idx, k ∈ met (l 0).val} := Set.ext fun k => ⟨met_all, fun ⟨_, hl⟩ => met_lt hl⟩
  have h := cand_last w
  obtain ⟨m, hm, hle, l₀, hl₀⟩ := meetAll_max (lastV (F := Ideal) w)
  have hn : ∀ l, named (F := Ideal) (lastV (F := Ideal) w) (lastI (F := Ideal) w) l
      = if lastV (F := Ideal) w l = m then lastI (F := Ideal) w l else 32768#32 := fun l => by
    rw [← hm l]
    exact select_oeq ..
  have hlt : ∀ l, (named (F := Ideal) (lastV (F := Ideal) w) (lastI (F := Ideal) w) l).toNat < 2 ^ 31 := fun l => by
    rw [hn]; split
    · exact (h l).2
    · decide
  obtain ⟨hmin, l₁, hl₁⟩ := meetAll_min _ hlt (lane 0)
  have hs : tileOut (F := Ideal) w (lane 0) = meetAll minsi (named (F := Ideal) (lastV (F := Ideal) w) (lastI (F := Ideal) w)) (lane 0) := by
    unfold tileOut
    exact stored_zero _
  have hb : ∀ l, lastV (F := Ideal) w l = m → (tileOut (F := Ideal) w (lane 0)).toNat ≤ (lastI (F := Ideal) w l).toNat := fun l el => by
    have := hmin l
    rwa [hn, if_pos el, ← hs] at this
  rw [e]
  refine ⟨m, First.lanes (fun l => (h l).1) hle ?_ hb⟩
  rw [hn, ← hs] at hl₁
  by_cases hv : lastV (F := Ideal) w l₁ = m
  · exact ⟨l₁, hv, by rw [hl₁, if_pos hv]⟩
  · exfalso
    have h5 := hb l₀ hl₀
    rw [hl₁, if_neg hv] at h5
    have := met_lt (h l₀).1.mem
    simp at h5
    omega

end Cert.ScKernelIdeal.Tile

end
-- ==== Proof.ScRefRun.lean ====
/-
  The reference's run (hand-written): its six host operations one after another, and what its result holds. From any
  memory it ends with its argument unchanged, no counter above zero (it has none) and its result at `refVal` of the
  argument; `refVal_first` says that is the first position at which each of the first 32 rows is greatest.
-/
module

public import proofs.«01_k».proof.Proof.HostArgMax
public import proofs.«01_k».proof.Proof.Gen.ScReferenceIdeal
public import Idealize.ShloMosaic.Lib.StableHlo.Run
public import Idealize.ShloMosaic.Lib.Quiescent
public import Idealize.ShloMosaic.Lib.Tactic

@[expose] public section

noncomputable section

open Idealize.ShloMosaic Idealize.ShloMosaic.TcCoe Idealize.SL.Sem

namespace Cert.ScReferenceIdeal.Value

open Cert.ScReferenceIdeal Cert.ScReferenceIdeal.Gen Idealize.ShloMosaic.StableHlo Cert.ArgMax

variable {F : FTy → Type} [FloatOps F]

/-- @main's operations, in order: the first 32 rows, the positions, the two starting values, and the two results of the arg-max. -/
abbrev ops : List (HloOp τ sig (Elt F)) :=
  [ unary main_arg0 main_v0 ((extractStridedSlice S32x32768 ![0, 0] · slices_S128x32768_S32x32768_0_0) :
      (⟨S128x32768, .f32⟩ : BufTy).Contents (Elt F) → (⟨S32x32768, .f32⟩ : BufTy).Contents (Elt F)),
    nullary main_call0_v0 (iotaInDim S32x32768 32 1),
    nullary main_call0_cst (constant S_ .f32 0xFF800000#32),
    nullary main_call0_c (constantI S_ 32 0#32),
    quaternary main_v0 main_call0_v0 main_call0_cst main_call0_c main_call0_v1_0
      (fun x y u v j => (Host.argReduce reducer_argmax_f32_i32 x y u v reducesTo_S32x32768_S32_d1 h_S_ j).1),
    quaternary main_v0 main_call0_v0 main_call0_cst main_call0_c main_v1
      (fun x y u v j => (Host.argReduce reducer_argmax_f32_i32 x y u v reducesTo_S32x32768_S32_d1 h_S_ j).2) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., nullary_bufs_sub .., nullary_bufs_sub .., quaternary_bufs_sub .., quaternary_bufs_sub ..⟩

/-- The first 32 rows. -/
def head (x : S128x32768.Idx → F .f32) : S32x32768.Idx → F .f32 := extractStridedSlice S32x32768 ![0, 0] x slices_S128x32768_S32x32768_0_0

/-- The arg-max of every row of `x`, as the host computes it. -/
def refVal (x : S32x32768.Idx → F .f32) : S32.Idx → BitVec 32 := fun j =>
  (Host.argReduce reducer_argmax_f32_i32 x (iotaInDim S32x32768 32 1) (constant S_ .f32 0xFF800000#32) (constantI S_ 32 0#32)
    reducesTo_S32x32768_S32_d1 h_S_ j).2

/-- Every execution of @main ends, with the result at `refVal` of the argument's first rows, the argument unchanged and every counter
    at zero. -/
theorem run (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c : Thread nD τ).loc main_v1) = refVal (head (m ((c : Thread nD τ).loc main_arg0)))
        ∧ r.2.mem ((c : Thread nD τ).loc main_arg0) = m ((c : Thread nD τ).loc main_arg0))
      ∧ r.2.sem = fun _ => 0 :=
  (θ_run defs _ _).mono (fun r h =>
    ⟨fun c => ⟨(h c main_v1).trans (by after_results; rfl), (h c main_arg0).trans (by after_results)⟩,
      sem_eq_zero_of_no_sems rfl _⟩)
    (run_seq scopedRefs_eq scopedSems_eq defs main (fun _ => ops) main_eq (fun _ => ops_sub) m ρ)

/-- The starting value is below every extended real. -/
theorem negInf : (Scalar.ofBits .f32 0xFF800000#32 : Ideal .f32) = (⊥ : EReal) := by
  show Ideal.ofBits .f32 0xFF800000#32 = ⊥
  simp [Ideal.ofBits, Ideal.ieee]

/-- The printed reducer is the step of `ArgMax`. -/
theorem reducer_eq : (reducer_argmax_f32_i32 : Ideal .f32 × BitVec 32 → Ideal .f32 × BitVec 32 → Ideal .f32 × BitVec 32) = refStep := by
  funext a b
  rfl

theorem refVal_eq (x : S32x32768.Idx → EReal) : refVal (F := Ideal) x = fun j =>
    (Host.argReduce (F := Ideal) (φ := .f32) refStep x (iotaInDim S32x32768 32 1) (constant (F := Ideal) S_ .f32 0xFF800000#32)
      (constantI S_ 32 0#32) reducesTo_S32x32768_S32_d1 h_S_ j).2 :=
  congrArg (fun f j => (Host.argReduce (F := Ideal) (φ := .f32) f x (iotaInDim S32x32768 32 1)
    (constant (F := Ideal) S_ .f32 0xFF800000#32) (constantI S_ 32 0#32) reducesTo_S32x32768_S32_d1 h_S_ j).2) reducer_eq

/-- The two starting values. -/
theorem start_value : ∀ i : S_.Idx, constant (F := Ideal) S_ .f32 0xFF800000#32 i = ⊥ := fun _ => negInf
theorem start_pos : ∀ i : S_.Idx, constantI S_ 32 0#32 i = 0#32 := fun _ => rfl

/-- The host's fold at row `r`, with its operands as variables. -/
theorem fold_first (x : S32x32768.Idx → EReal) (y : S32x32768.Idx → BitVec 32) (hy : y = iotaInDim S32x32768 32 1)
    (a : S_.Idx → EReal) (ha : ∀ i, a i = ⊥) (b : S_.Idx → BitVec 32) (hb : ∀ i, b i = 0#32) (r : Fin 32) :
    ∃ m, First (rowAt x r) {k | k < 32768} m (BitVec.toNat (w := 32)
      (Host.argReduce (F := Ideal) (φ := .f32) refStep x y a b reducesTo_S32x32768_S32_d1 h_S_ (ix1 r)).2) :=
  hostArgMax_first (n := 32) (u := S_) x y hy a ha b hb reducesTo_S32x32768_S32_d1 h_S_ r

/-- At the extended reals the reference's result at row `r` is the first position at which the row is greatest. -/
theorem refVal_first (x : S32x32768.Idx → EReal) (r : Fin 32) :
    ∃ m, First (rowAt x r) {k | k < 32768} m (BitVec.toNat (w := 32) (refVal (F := Ideal) x (ix1 r))) := by
  rw [refVal_eq]
  exact fold_first x _ rfl _ start_value _ start_pos r

end Cert.ScReferenceIdeal.Value

end
-- ==== Proof.ScEnd.lean ====
/-
  The two ends of the SparseCore call agree (hand-written): row by row, what its launch leaves in the result is the first
  column at which the row is greatest, and so is what the reference computes from the first 32 rows.
-/
module

public import proofs.«01_k».proof.Proof.ScLaunch
public import proofs.«01_k».proof.Proof.ScValue
public import proofs.«01_k».proof.Proof.ScRefRun

@[expose] public section

noncomputable section

namespace Cert.ScKernelIdeal.Tile

open Cert.ScKernelIdeal Cert.ScKernelIdeal.Gen
open Idealize.ShloMosaic Cert.ArgMax

/-- Being the first greatest only looks at the values on the set. -/
theorem first_congr {f g : ℕ → EReal} {S : Set ℕ} {v : EReal} {i : ℕ} (h : First f S v i) (e : ∀ k ∈ S, f k = g k) : First g S v i where
  mem := h.mem
  val := (e i h.mem) ▸ h.val
  le k hk := (e k hk) ▸ h.le k hk
  first k hk hv := h.first k hk ((e k hk).trans hv)

/-- Row `r` as the host's slice has it, and as the tile reads it. -/
theorem row_head (x : S128x32768.Idx → EReal) (r : Fin 32) (k : ℕ) (hk : k < 32768) :
    rowAt (Cert.ScReferenceIdeal.Value.head (F := Ideal) x) r k = rowOf (F := Ideal) x r.val k := by
  unfold rowAt
  rw [dif_pos hk]
  unfold Cert.ScReferenceIdeal.Value.head rowOf
  refine (extractStridedSlice_apply _ x _ _ (xIx r.val k) (fun a => ?_))
  match a with
  | 0 =>
    show r.val % 128 = 0 + r.val
    have := r.isLt
    omega
  | 1 =>
    show k % 32768 = 0 + k
    omega

/-- THE RESULT: the launch's is the reference's. -/
theorem result_eq (x : S128x32768.Idx → EReal) :
    (fun j : S32.Idx => Gout (F := Ideal) x (oIx (j 0).val 0)) = Cert.ScReferenceIdeal.Value.refVal (F := Ideal) (Cert.ScReferenceIdeal.Value.head x) := by
  funext j
  obtain ⟨r, rfl⟩ : ∃ r : Fin 32, j = ix1 r := ⟨⟨(j 0).val, (j 0).isLt⟩, by funext a; match a with | 0 => rfl⟩
  obtain ⟨m, hm⟩ := Cert.ScReferenceIdeal.Value.refVal_first (Cert.ScReferenceIdeal.Value.head (F := Ideal) x) r
  obtain ⟨m', hm'⟩ := tileOut_first (rowOf (F := Ideal) x r.val)
  have e : Gout (F := Ideal) x (oIx r.val 0) = tileOut (F := Ideal) (rowOf (F := Ideal) x r.val) (lane 0) := by
    show tileOut (rowOf (F := Ideal) x (r.val % 32)) (lane (0 % 16)) = _
    rw [Nat.mod_eq_of_lt r.isLt]
  refine BitVec.eq_of_toNat_eq ?_
  show (Gout (F := Ideal) x (oIx r.val 0)).toNat = _
  rw [e]
  exact hm'.unique (first_congr hm fun k hk => row_head x r k hk)

end Cert.ScKernelIdeal.Tile

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ScKernel
public import proofs.«01_k».proof.Proof.Gen.ScKernel.Skeleton
public import proofs.«01_k».proof.Proof.Gen.ScKernelIdeal
public import proofs.«01_k».proof.Proof.Gen.ScKernelIdeal.Skeleton
public import proofs.«01_k».proof.Proof.Gen.ScReferenceIdeal
public import proofs.«01_k».proof.Proof.RefRun
public import proofs.«01_k».proof.Proof.TcRun
public import proofs.«01_k».proof.Proof.ScEnd
public import Idealize.ShloMosaic.Adequacy
public import Idealize.ShloMosaic.Init

@[expose] public section

noncomputable section

namespace Cert.Proof

open Idealize.ShloMosaic Idealize.ShloMosaic.TcCoe Idealize.SL.Sem

/-- The reference's frame, at the extended reals. -/
theorem frame_reference : Cert.quiescent_ReferenceIdeal := fun m ρ _ =>
  (θ_run Cert.ReferenceIdeal.defs _ _).mono (fun _ h => ⟨fun c => (h.1 c).2, h.2⟩) (Cert.ReferenceIdeal.Value.run m ρ)

/-- The kernel and the reference end with the same result: both hold, row by row, the first position at which the row is
    greatest. -/
theorem value : Cert.algebraic_KernelIdeal_ReferenceIdeal := fun m ρ m' ρ' _ hin =>
  ⟨fun c => Cert.ReferenceIdeal.Value.refVal (F := Ideal) (m ((c : Thread Cert.KernelIdeal.nD Cert.KernelIdeal.τ).loc Cert.KernelIdeal.main_arg0)),
    Cert.KernelIdeal.Value.run m ρ _ fun c r => Cert.ReferenceIdeal.Value.refVal_first _ r,
    (θ_run Cert.ReferenceIdeal.defs _ _).mono
      (fun _ h c => ⟨(h.1 c).1.trans (congrArg (Cert.ReferenceIdeal.Value.refVal (F := Ideal)) (hin c)), (h.1 c).2⟩)
      (Cert.ReferenceIdeal.Value.run m' ρ')⟩

/-- The SparseCore launch's frame, at words: the two printed programs are the same text. -/
theorem frame_sc : Cert.quiescent_ScKernel := fun m ρ _ =>
  (θ_run Cert.ScKernelIdeal.defs _ _).mono (fun _ h => ⟨fun c => (h.1 c).1, h.2⟩)
    (Cert.ScKernelIdeal.Tile.run_main (F := Bits) m ρ)

/-- The SparseCore launch's frame, at the extended reals. -/
theorem frame_sc_ideal : Cert.quiescent_ScKernelIdeal := fun m ρ _ =>
  (θ_run Cert.ScKernelIdeal.defs _ _).mono (fun _ h => ⟨fun c => (h.1 c).1, h.2⟩)
    (Cert.ScKernelIdeal.Tile.run_main (F := Ideal) m ρ)

/-- The frame of the SparseCore call's reference. -/
theorem frame_sc_reference : Cert.quiescent_ScReferenceIdeal := fun m ρ _ =>
  (θ_run Cert.ScReferenceIdeal.defs _ _).mono (fun _ h => ⟨fun c => (h.1 c).2, h.2⟩) (Cert.ScReferenceIdeal.Value.run m ρ)

/-- The SparseCore launch and its reference end with the same result: for each of the first 32 rows the first position at
    which the row is greatest. -/
theorem value_sc : Cert.algebraic_ScKernelIdeal_ScReferenceIdeal := fun m ρ m' ρ' _ hin =>
  ⟨fun c => Cert.ScReferenceIdeal.Value.refVal (F := Ideal) (Cert.ScReferenceIdeal.Value.head (F := Ideal)
      (m ((c : Thread Cert.ScKernelIdeal.nD Cert.ScKernelIdeal.τ).loc Cert.ScKernelIdeal.main_arg0))),
    (θ_run Cert.ScKernelIdeal.defs _ _).mono
      (fun _ h c => ⟨(h.1 c).2.trans (Cert.ScKernelIdeal.Tile.result_eq _), (h.1 c).1⟩)
      (Cert.ScKernelIdeal.Tile.run_main (F := Ideal) m ρ),
    (θ_run Cert.ScReferenceIdeal.defs _ _).mono
      (fun _ h c => ⟨(h.1 c).1.trans (congrArg (fun x => Cert.ScReferenceIdeal.Value.refVal (F := Ideal)
        (Cert.ScReferenceIdeal.Value.head (F := Ideal) x)) (hin c)), (h.1 c).2⟩)
      (Cert.ScReferenceIdeal.Value.run m' ρ')⟩

theorem claim : Cert.Claim := ⟨Cert.Kernel.Gen.facts, Cert.KernelIdeal.Gen.facts, Cert.ReferenceIdeal.Gen.facts,
  Cert.ScKernel.Gen.facts, Cert.ScKernelIdeal.Gen.facts, Cert.ScReferenceIdeal.Gen.facts,
  fun m ρ _ => Cert.Kernel.Gen.frame m ρ, fun m ρ _ => Cert.KernelIdeal.Gen.frame m ρ, frame_reference,
  frame_sc, frame_sc_ideal, frame_sc_reference, trivial, value, trivial, value_sc⟩

end Cert.Proof

end
